-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_finite_scores [hPre_finite_scores : Cert.Pre_finite_scores.Facts] (m : (ℓ : Loc Cert.KernelIdeal.nD Cert.KernelIdeal.τ Cert.KernelIdeal.sig) → Buf (Elt Ideal) ℓ) : Prop :=
  ∀ c : Dev Cert.KernelIdeal.nD,
    (Cert.Pre_finite_scores.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5))).1 = (fun _ => 1#1)
    ∧ (Cert.Pre_finite_scores.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5))).2.1 = (fun _ => 1#1)
    ∧ (Cert.Pre_finite_scores.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5))).2.2.1 = (fun _ => 1#1)
    ∧ (Cert.Pre_finite_scores.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5))).2.2.2 = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_finite_scores [hPre_finite_scores : Cert.Pre_finite_scores.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_scores.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5))).1 = (fun _ => 1#1)
    ∧ (Cert.Pre_finite_scores.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5))).2.1 = (fun _ => 1#1)
    ∧ (Cert.Pre_finite_scores.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5))).2.2.1 = (fun _ => 1#1)
    ∧ (Cert.Pre_finite_scores.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5))).2.2.2 = (fun _ => 1#1)

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))
      ∧ r.2.sem = fun _ => 0)

def quiescent_KernelIdeal_pre_finite_scores [hKernelIdeal : Cert.KernelIdeal.Facts] [hPre_finite_scores : Cert.Pre_finite_scores.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_finite_scores m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5))
      ∧ r.2.sem = fun _ => 0)

def quiescent_ReferenceIdeal_pre_finite_scores [hReferenceIdeal : Cert.ReferenceIdeal.Facts] [hPre_finite_scores : Cert.Pre_finite_scores.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_finite_scores m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5))
      ∧ r.2.sem = fun _ => 0)

def preserves_Kernel_KernelIdeal : Prop :=
  IdealRules.named_const.Statement Cert.KernelIdeal.κ "log2e" .f32 0x3FB8AA3B#32 (((Real.log 2)⁻¹ : ℝ) : EReal)

def algebraic_KernelIdeal_ReferenceIdeal_pre_finite_scores [hKernelIdeal : Cert.KernelIdeal.Facts] [hReferenceIdeal : Cert.ReferenceIdeal.Facts] [hPre_finite_scores : Cert.Pre_finite_scores.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_finite_scores m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)) →
    ∃ (v0 : (c : Dev Cert.KernelIdeal.nD) → Buf (Elt Ideal) ((c.tc : Thread Cert.KernelIdeal.nD Cert.KernelIdeal.τ).loc Cert.KernelIdeal.main_v17)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v17) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v96) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5))

def Claim : Prop :=
  ∃ (hKernel : Cert.Kernel.Facts) (hKernelIdeal : Cert.KernelIdeal.Facts) (hReferenceIdeal : Cert.ReferenceIdeal.Facts) (hPre_finite_scores : Cert.Pre_finite_scores.Facts),
    quiescent_Kernel (hKernel := hKernel)
    ∧ quiescent_KernelIdeal (hKernelIdeal := hKernelIdeal)
    ∧ quiescent_KernelIdeal_pre_finite_scores (hKernelIdeal := hKernelIdeal) (hPre_finite_scores := hPre_finite_scores)
    ∧ quiescent_ReferenceIdeal (hReferenceIdeal := hReferenceIdeal)
    ∧ quiescent_ReferenceIdeal_pre_finite_scores (hReferenceIdeal := hReferenceIdeal) (hPre_finite_scores := hPre_finite_scores)
    ∧ preserves_Kernel_KernelIdeal
    ∧ algebraic_KernelIdeal_ReferenceIdeal_pre_finite_scores (hKernelIdeal := hKernelIdeal) (hReferenceIdeal := hReferenceIdeal) (hPre_finite_scores := hPre_finite_scores)
-- ==== Pre_finite_scores.lean ====
abbrev S2x16384x56x128 : Shape := ⟨4, ![2, 16384, 56, 128]⟩
abbrev S2x56 : Shape := ⟨2, ![2, 56]⟩
abbrev S2x16384x56 : Shape := ⟨3, ![2, 16384, 56]⟩
abbrev S_ : Shape := ⟨0, ![]⟩

class Facts : Prop where
  bcast_S_S2x16384x56x128 : S_.BroadcastsInDim S2x16384x56x128 (![] : Fin 0 → Fin S2x16384x56x128.rank)
  bcast_S_S2x56 : S_.BroadcastsInDim S2x56 (![] : Fin 0 → Fin S2x56.rank)
  bcast_S_S2x16384x56 : S_.BroadcastsInDim S2x16384x56 (![] : Fin 0 → Fin S2x16384x56.rank)

variable [Facts]

def fn {F : FTy → Type} [FloatOps F] (main_arg0 : FVec F S2x16384x56x128 .f32) (main_arg1 : FVec F S2x56 .f32) (main_arg2 : FVec F S2x16384x56x128 .f32) (main_arg3 : FVec F S2x16384x56 .f32) (main_arg4 : FVec F S2x16384x56x128 .f32) (main_arg5 : FVec F S2x16384x56 .f32) : IVec S2x16384x56x128 1 × IVec S2x56 1 × IVec S2x16384x56x128 1 × IVec S2x16384x56 1 :=
  let main_v0 : FVec F S2x16384x56x128 .f32 := Host.absf main_arg0
  let main_cst : FVec F S_ .f32 := constant S_ .f32 0x7F800000#32
  let main_v1 : FVec F S2x16384x56x128 .f32 := broadcastInDim S2x16384x56x128 ![] bcast_S_S2x16384x56x128 main_cst
  let main_v2 : IVec S2x16384x56x128 1 := cmpf .olt main_v0 main_v1
  let main_v3 : FVec F S2x56 .f32 := Host.absf main_arg1
  let main_cst_0 : FVec F S_ .f32 := constant S_ .f32 0x7F800000#32
  let main_v4 : FVec F S2x56 .f32 := broadcastInDim S2x56 ![] bcast_S_S2x56 main_cst_0
  let main_v5 : IVec S2x56 1 := cmpf .olt main_v3 main_v4
  let main_v6 : FVec F S2x16384x56x128 .f32 := Host.absf main_arg2
  let main_cst_1 : FVec F S_ .f32 := constant S_ .f32 0x7F800000#32
  let main_v7 : FVec F S2x16384x56x128 .f32 := broadcastInDim S2x16384x56x128 ![] bcast_S_S2x16384x56x128 main_cst_1
  let main_v8 : IVec S2x16384x56x128 1 := cmpf .olt main_v6 main_v7
  let main_v9 : FVec F S2x16384x56 .f32 := Host.absf main_arg3
  let main_cst_2 : FVec F S_ .f32 := constant S_ .f32 0x7F800000#32
  let main_v10 : FVec F S2x16384x56 .f32 := broadcastInDim S2x16384x56 ![] bcast_S_S2x16384x56 main_cst_2
  let main_v11 : IVec S2x16384x56 1 := cmpf .olt main_v9 main_v10
  (main_v2, main_v5, main_v8, main_v11)
-- ==== Kernel.lean ====
abbrev S2x16384x56x128 : Shape := ⟨4, ![2, 16384, 56, 128]⟩
abbrev S2x56 : Shape := ⟨2, ![2, 56]⟩
abbrev S2x16384x56 : Shape := ⟨3, ![2, 16384, 56]⟩
abbrev S2x56x16384x128 : Shape := ⟨4, ![2, 56, 16384, 128]⟩
abbrev S112x16384x128 : Shape := ⟨3, ![112, 16384, 128]⟩
abbrev S2x32x8x64x56x128 : Shape := ⟨6, ![2, 32, 8, 64, 56, 128]⟩
abbrev S2x56x32x64x8x128 : Shape := ⟨6, ![2, 56, 32, 64, 8, 128]⟩
abbrev S2x56x128x32x64x8 : Shape := ⟨6, ![2, 56, 128, 32, 64, 8]⟩
abbrev S112x128x16384 : Shape := ⟨3, ![112, 128, 16384]⟩
abbrev S2x56x16384 : Shape := ⟨3, ![2, 56, 16384]⟩
abbrev S112x256x64 : Shape := ⟨3, ![112, 256, 64]⟩
abbrev S2x32x8x64x56 : Shape := ⟨5, ![2, 32, 8, 64, 56]⟩
abbrev S2x56x32x64x8 : Shape := ⟨5, ![2, 56, 32, 64, 8]⟩
abbrev S112x32x512 : Shape := ⟨3, ![112, 32, 512]⟩
abbrev S112 : Shape := ⟨1, ![112]⟩
abbrev S2x16384x7168 : Shape := ⟨3, ![2, 16384, 7168]⟩
abbrev S1x512x128 : Shape := ⟨3, ![1, 512, 128]⟩
abbrev S1x16384x128 : Shape := ⟨3, ![1, 16384, 128]⟩
abbrev S1x128x16384 : Shape := ⟨3, ![1, 128, 16384]⟩
abbrev S1x256x64 : Shape := ⟨3, ![1, 256, 64]⟩
abbrev S1x32x512 : Shape := ⟨3, ![1, 32, 512]⟩
abbrev S16384x128 : Shape := ⟨2, ![16384, 128]⟩
abbrev S128x16384 : Shape := ⟨2, ![128, 16384]⟩
abbrev S1x512 : Shape := ⟨2, ![1, 512]⟩
abbrev S128x512 : Shape := ⟨2, ![128, 512]⟩
abbrev S1x8x64 : Shape := ⟨3, ![1, 8, 64]⟩
abbrev S8x64 : Shape := ⟨2, ![8, 64]⟩
abbrev S1 : Shape := ⟨1, ![1]⟩
abbrev S8x1 : Shape := ⟨2, ![8, 1]⟩
abbrev S8x128 : Shape := ⟨2, ![8, 128]⟩
abbrev S1x1x512 : Shape := ⟨3, ![1, 1, 512]⟩
abbrev S1x128x512 : Shape := ⟨3, ![1, 128, 512]⟩
abbrev S512x128 : Shape := ⟨2, ![512, 128]⟩
abbrev S512x512 : Shape := ⟨2, ![512, 512]⟩
abbrev S64x8x512 : Shape := ⟨3, ![64, 8, 512]⟩
abbrev S63x8x512 : Shape := ⟨3, ![63, 8, 512]⟩
abbrev S1x8x512 : Shape := ⟨3, ![1, 8, 512]⟩
abbrev S8x512 : Shape := ⟨2, ![8, 512]⟩
abbrev S512 : Shape := ⟨1, ![512]⟩

abbrev nBuf : Space → Nat
  | .hbm => 24
  | .vmem => 17
  | .smem => 1
  | _ => 0

abbrev bufTy : (tb : Table) → Fin (tcTables nBuf tb) → BufTy
  | .hbm, ⟨0, _⟩ => ⟨S2x16384x56x128, .f32⟩
  | .hbm, ⟨1, _⟩ => ⟨S2x56, .f32⟩
  | .hbm, ⟨2, _⟩ => ⟨S2x16384x56x128, .f32⟩
  | .hbm, ⟨3, _⟩ => ⟨S2x16384x56, .f32⟩
  | .hbm, ⟨4, _⟩ => ⟨S2x16384x56x128, .f32⟩
  | .hbm, ⟨5, _⟩ => ⟨S2x16384x56, .f32⟩
  | .hbm, ⟨6, _⟩ => ⟨S2x16384x56x128, .fp8e4m3⟩
  | .hbm, ⟨7, _⟩ => ⟨S2x16384x56x128, .fp8e4m3⟩
  | .hbm, ⟨8, _⟩ => ⟨S2x16384x56x128, .fp8e4m3⟩
  | .hbm, ⟨9, _⟩ => ⟨S2x56x16384x128, .fp8e4m3⟩
  | .hbm, ⟨10, _⟩ => ⟨S112x16384x128, .fp8e4m3⟩
  | .hbm, ⟨11, _⟩ => ⟨S2x32x8x64x56x128, .fp8e4m3⟩
  | .hbm, ⟨12, _⟩ => ⟨S2x56x32x64x8x128, .fp8e4m3⟩
  | .hbm, ⟨13, _⟩ => ⟨S112x16384x128, .fp8e4m3⟩
  | .hbm, ⟨14, _⟩ => ⟨S2x32x8x64x56x128, .fp8e4m3⟩
  | .hbm, ⟨15, _⟩ => ⟨S2x56x128x32x64x8, .fp8e4m3⟩
  | .hbm, ⟨16, _⟩ => ⟨S112x128x16384, .fp8e4m3⟩
  | .hbm, ⟨17, _⟩ => ⟨S2x56x16384, .f32⟩
  | .hbm, ⟨18, _⟩ => ⟨S112x256x64, .f32⟩
  | .hbm, ⟨19, _⟩ => ⟨S2x32x8x64x56, .f32⟩
  | .hbm, ⟨20, _⟩ => ⟨S2x56x32x64x8, .f32⟩
  | .hbm, ⟨21, _⟩ => ⟨S112x32x512, .f32⟩
  | .hbm, ⟨22, _⟩ => ⟨S112, .f32⟩
  | .hbm, ⟨23, _⟩ => ⟨S2x16384x7168, .bf16⟩
  | .local _ .vmem, ⟨0, _⟩ => ⟨S1x512x128, .fp8e4m3⟩
  | .local _ .vmem, ⟨1, _⟩ => ⟨S1x512x128, .fp8e4m3⟩
  | .local _ .vmem, ⟨2, _⟩ => ⟨S1x16384x128, .fp8e4m3⟩
  | .local _ .vmem, ⟨3, _⟩ => ⟨S1x16384x128, .fp8e4m3⟩
  | .local _ .vmem, ⟨4, _⟩ => ⟨S1x128x16384, .fp8e4m3⟩
  | .local _ .vmem, ⟨5, _⟩ => ⟨S1x128x16384, .fp8e4m3⟩
  | .local _ .vmem, ⟨6, _⟩ => ⟨S1x256x64, .f32⟩
  | .local _ .vmem, ⟨7, _⟩ => ⟨S1x256x64, .f32⟩
  | .local _ .vmem, ⟨8, _⟩ => ⟨S1x32x512, .f32⟩
  | .local _ .vmem, ⟨9, _⟩ => ⟨S1x32x512, .f32⟩
  | .local _ .vmem, ⟨10, _⟩ => ⟨S1x512x128, .bf16⟩
  | .local _ .vmem, ⟨11, _⟩ => ⟨S1x512x128, .bf16⟩
  | .local _ .vmem, ⟨12, _⟩ => ⟨S16384x128, .f32⟩
  | .local _ .vmem, ⟨13, _⟩ => ⟨S128x16384, .bf16⟩
  | .local _ .vmem, ⟨14, _⟩ => ⟨S1x512, .f32⟩
  | .local _ .vmem, ⟨15, _⟩ => ⟨S1x512, .f32⟩
  | .local _ .vmem, ⟨16, _⟩ => ⟨S128x512, .f32⟩
  | .local _ .smem, ⟨0, _⟩ => ⟨S112, .f32⟩
  | _, _ => ⟨S2x16384x56x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .smem, ⟨0, _⟩ => true
  | _, _ => false

abbrev semScoped : Fin 0 → Bool
  | ⟨_, h⟩ => absurd h (Nat.not_lt_zero _)

abbrev dmaSemScoped : Fin 13 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | _ => false

abbrev sig : RefSig :=
  ofTc nBuf bufTy 0 13 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev main_v11 : Ref sig .tc := ⟨.hbm, 17, rfl⟩
abbrev main_v12 : Ref sig .tc := ⟨.hbm, 18, rfl⟩
abbrev main_v13 : Ref sig .tc := ⟨.hbm, 19, rfl⟩
abbrev main_v14 : Ref sig .tc := ⟨.hbm, 20, rfl⟩
abbrev main_v15 : Ref sig .tc := ⟨.hbm, 21, rfl⟩
abbrev main_v16 : Ref sig .tc := ⟨.hbm, 22, rfl⟩
abbrev main_v17 : Ref sig .tc := ⟨.hbm, 23, rfl⟩
abbrev cc0_stg1_0 : Ref sig .tc := ⟨.vmem, 0, rfl⟩
abbrev cc0_stg1_1 : Ref sig .tc := ⟨.vmem, 1, rfl⟩
abbrev cc0_stg2_0 : Ref sig .tc := ⟨.vmem, 2, rfl⟩
abbrev cc0_stg2_1 : Ref sig .tc := ⟨.vmem, 3, rfl⟩
abbrev cc0_stg3_0 : Ref sig .tc := ⟨.vmem, 4, rfl⟩
abbrev cc0_stg3_1 : Ref sig .tc := ⟨.vmem, 5, rfl⟩
abbrev cc0_stg4_0 : Ref sig .tc := ⟨.vmem, 6, rfl⟩
abbrev cc0_stg4_1 : Ref sig .tc := ⟨.vmem, 7, rfl⟩
abbrev cc0_stg5_0 : Ref sig .tc := ⟨.vmem, 8, rfl⟩
abbrev cc0_stg5_1 : Ref sig .tc := ⟨.vmem, 9, rfl⟩
abbrev cc0_stg6_0 : Ref sig .tc := ⟨.vmem, 10, rfl⟩
abbrev cc0_stg6_1 : Ref sig .tc := ⟨.vmem, 11, rfl⟩
abbrev cc0_scratch0 : Ref sig .tc := ⟨.vmem, 12, rfl⟩
abbrev cc0_scratch1 : Ref sig .tc := ⟨.vmem, 13, rfl⟩
abbrev cc0_scratch2 : Ref sig .tc := ⟨.vmem, 14, rfl⟩
abbrev cc0_scratch3 : Ref sig .tc := ⟨.vmem, 15, rfl⟩
abbrev cc0_scratch4 : Ref sig .tc := ⟨.vmem, 16, rfl⟩
abbrev cc0_stg0_0 : Ref sig .tc := ⟨.smem, 0, rfl⟩
abbrev cc0_sem0_0 : DmaSem sig := 0
abbrev cc0_sem1_0 : DmaSem sig := 1
abbrev cc0_sem1_1 : DmaSem sig := 2
abbrev cc0_sem2_0 : DmaSem sig := 3
abbrev cc0_sem2_1 : DmaSem sig := 4
abbrev cc0_sem3_0 : DmaSem sig := 5
abbrev cc0_sem3_1 : DmaSem sig := 6
abbrev cc0_sem4_0 : DmaSem sig := 7
abbrev cc0_sem4_1 : DmaSem sig := 8
abbrev cc0_sem5_0 : DmaSem sig := 9
abbrev cc0_sem5_1 : DmaSem sig := 10
abbrev cc0_sem6_0 : DmaSem sig := 11
abbrev cc0_sem6_1 : DmaSem sig := 12

abbrev nD : Nat := 1
abbrev τ : Topo := Topo.v7x

variable {F : FTy → Type} [FloatOps F]

abbrev grid0 : Pipeline.Grid := ⟨2, ![112, 32], ![false, false]⟩

def k0_mult1 (i : grid0.Coords) : BitVec 32 :=
  let arg1 : BitVec 32 := BitVec.ofNat 32 (i 1).val
  let c512_i32 : BitVec 32 := 512#32
  let v0 : BitVec 32 := Scalar.muli arg1 c512_i32
  v0
def k0_mult2 (i : grid0.Coords) : BitVec 32 :=
  let arg1 : BitVec 32 := BitVec.ofNat 32 (i 1).val
  let c8_i32 : BitVec 32 := 8#32
  let v2 : BitVec 32 := Scalar.muli arg1 c8_i32
  v2
def k0_off1 (i : grid0.Coords) : Fin 3 → Nat :=
  let c0 : Index := 0#32
  let arg1 : BitVec 32 := BitVec.ofNat 32 (i 1).val
  let c8_i32 : BitVec 32 := 8#32
  let v2 : BitVec 32 := Scalar.muli arg1 c8_i32
  let v3 : BitVec 32 := v2
  let v4 : Index := Scalar.indexCast v3
  let c0_0 : Index := 0#32
  ![0, v4.toNat, 0]
def k0_off2 (i : grid0.Coords) : Fin 1 → Nat :=
  let arg0 : BitVec 32 := BitVec.ofNat 32 (i 0).val
  let v7 : Index := Scalar.indexCast arg0
  ![v7.toNat]
def k0_off3 (i : grid0.Coords) (c0_i32 : BitVec 32) : Fin 2 → Nat :=
  let arg1 : BitVec 32 := BitVec.ofNat 32 (i 1).val
  let c512_i32 : BitVec 32 := 512#32
  let v0 : BitVec 32 := Scalar.muli arg1 c512_i32
  let v1 : BitVec 32 := v0
  let v16 : BitVec 32 := Scalar.addi v1 c0_i32
  let v17 : Index := Scalar.indexCast v16
  let c0_2 : Index := 0#32
  ![v17.toNat, 0]
def k0_off4 (i : grid0.Coords) : Fin 3 → Nat :=
  let c0_67 : Index := 0#32
  let arg1 : BitVec 32 := BitVec.ofNat 32 (i 1).val
  let v525 : Index := Scalar.indexCast arg1
  let c0_68 : Index := 0#32
  ![0, v525.toNat, 0]
def k0_off5 (i : grid0.Coords) : Fin 3 → Nat :=
  let c0_69 : Index := 0#32
  let c0_70 : Index := 0#32
  let arg1 : BitVec 32 := BitVec.ofNat 32 (i 1).val
  let c512_i32 : BitVec 32 := 512#32
  let v0 : BitVec 32 := Scalar.muli arg1 c512_i32
  let v1 : BitVec 32 := v0
  let v528 : Index := Scalar.indexCast v1
  ![0, 0, v528.toNat]
def k0_off6 (i : grid0.Coords) : Fin 2 → Nat :=
  let c0_71 : Index := 0#32
  let arg1 : BitVec 32 := BitVec.ofNat 32 (i 1).val
  let c512_i32 : BitVec 32 := 512#32
  let v0 : BitVec 32 := Scalar.muli arg1 c512_i32
  let v1 : BitVec 32 := v0
  let v535 : Index := Scalar.indexCast v1
  ![0, v535.toNat]
@[reducible] def k0_t1_loop (i : grid0.Coords) : Scf.Loop 32 :=
  let c0_i32_86 : BitVec 32 := 0#32
  let arg1 : BitVec 32 := BitVec.ofNat 32 (i 1).val
  let c0_i32_81 : BitVec 32 := 0#32
  let v551 : BitVec 32 := Scalar.subi arg1 c0_i32_81
  let c1_i32 : BitVec 32 := 1#32
  let c1_i32_82 : BitVec 32 := 1#32
  let v552 : BitVec 32 := Scalar.subi c1_i32 c1_i32_82
  let v553 : BitVec 32 := Scalar.addi v551 v552
  let c1_i32_83 : BitVec 32 := 1#32
  let v554 : BitVec 32 := Scalar.divsi v553 c1_i32_83
  let v555 : BitVec 32 := Scalar.subi v554 c0_i32_86
  let c1_i32_87 : BitVec 32 := 1#32
  let v557 : BitVec 32 := Scalar.divsi v555 c1_i32_87
  let v558 : BitVec 32 := Scalar.muli v557 c1_i32_87
  let v559 : BitVec 32 := Scalar.addi c0_i32_86 v558
  let c1_i32_88 : BitVec 32 := 1#32
  ⟨c0_i32_86, v559, c1_i32_88⟩
def k0_mult3 (i : grid0.Coords) (k0_t1 : Fin (k0_t1_loop i).trips) : BitVec 32 :=
  let c0_i32_85 : BitVec 32 := 0#32
  let c0_i32_86 : BitVec 32 := 0#32
  let c1_i32_88 : BitVec 32 := 1#32
  let arg14 : BitVec 32 := Scf.iv c0_i32_86 c1_i32_88 k0_t1
  let c1_i32_84 : BitVec 32 := 1#32
  let v702 : BitVec 32 := Scalar.muli arg14 c1_i32_84
  let v703 : BitVec 32 := Scalar.addi c0_i32_85 v702
  let c512_i32_145 : BitVec 32 := 512#32
  let v704 : BitVec 32 := Scalar.muli v703 c512_i32_145
  v704
def k0_off7 (i : grid0.Coords) (k0_t1 : Fin (k0_t1_loop i).trips) : Fin 3 → Nat :=
  let c0_146 : Index := 0#32
  let c0_i32_85 : BitVec 32 := 0#32
  let c0_i32_86 : BitVec 32 := 0#32
  let c1_i32_88 : BitVec 32 := 1#32
  let arg14 : BitVec 32 := Scf.iv c0_i32_86 c1_i32_88 k0_t1
  let c1_i32_84 : BitVec 32 := 1#32
  let v702 : BitVec 32 := Scalar.muli arg14 c1_i32_84
  let v703 : BitVec 32 := Scalar.addi c0_i32_85 v702
  let c512_i32_145 : BitVec 32 := 512#32
  let v704 : BitVec 32 := Scalar.muli v703 c512_i32_145
  let v705 : BitVec 32 := v704
  let v706 : Index := Scalar.indexCast v705
  let c0_147 : Index := 0#32
  ![0, v706.toNat, 0]
def k0_off8 (i : grid0.Coords) (k0_t1 : Fin (k0_t1_loop i).trips) : Fin 2 → Nat :=
  let c0_i32_85 : BitVec 32 := 0#32
  let c0_i32_86 : BitVec 32 := 0#32
  let c1_i32_88 : BitVec 32 := 1#32
  let arg14 : BitVec 32 := Scf.iv c0_i32_86 c1_i32_88 k0_t1
  let c1_i32_84 : BitVec 32 := 1#32
  let v702 : BitVec 32 := Scalar.muli arg14 c1_i32_84
  let v703 : BitVec 32 := Scalar.addi c0_i32_85 v702
  let c512_i32_145 : BitVec 32 := 512#32
  let v704 : BitVec 32 := Scalar.muli v703 c512_i32_145
  let v705 : BitVec 32 := v704
  let v712 : Index := Scalar.indexCast v705
  let c0_152 : Index := 0#32
  ![v712.toNat, 0]
def k0_off9 (i : grid0.Coords) (k0_t1 : Fin (k0_t1_loop i).trips) : Fin 2 → Nat :=
  let c0_159 : Index := 0#32
  let c0_i32_85 : BitVec 32 := 0#32
  let c0_i32_86 : BitVec 32 := 0#32
  let c1_i32_88 : BitVec 32 := 1#32
  let arg14 : BitVec 32 := Scf.iv c0_i32_86 c1_i32_88 k0_t1
  let c1_i32_84 : BitVec 32 := 1#32
  let v702 : BitVec 32 := Scalar.muli arg14 c1_i32_84
  let v703 : BitVec 32 := Scalar.addi c0_i32_85 v702
  let c512_i32_145 : BitVec 32 := 512#32
  let v704 : BitVec 32 := Scalar.muli v703 c512_i32_145
  let v705 : BitVec 32 := v704
  let v743 : Index := Scalar.indexCast v705
  ![0, v743.toNat]
@[reducible] def k0_t2_loop (i : grid0.Coords) : Scf.Loop 32 :=
  let c0_i32_86 : BitVec 32 := 0#32
  let arg1 : BitVec 32 := BitVec.ofNat 32 (i 1).val
  let c0_i32_81 : BitVec 32 := 0#32
  let v551 : BitVec 32 := Scalar.subi arg1 c0_i32_81
  let c1_i32 : BitVec 32 := 1#32
  let c1_i32_82 : BitVec 32 := 1#32
  let v552 : BitVec 32 := Scalar.subi c1_i32 c1_i32_82
  let v553 : BitVec 32 := Scalar.addi v551 v552
  let c1_i32_83 : BitVec 32 := 1#32
  let v554 : BitVec 32 := Scalar.divsi v553 c1_i32_83
  let v555 : BitVec 32 := Scalar.subi v554 c0_i32_86
  let c1_i32_87 : BitVec 32 := 1#32
  let v557 : BitVec 32 := Scalar.divsi v555 c1_i32_87
  let v558 : BitVec 32 := Scalar.muli v557 c1_i32_87
  let v559 : BitVec 32 := Scalar.addi c0_i32_86 v558
  let v556 : BitVec 32 := Scalar.addi c0_i32_86 v555
  let c1_i32_89 : BitVec 32 := 1#32
  ⟨v559, v556, c1_i32_89⟩
def k0_mult4 (i : grid0.Coords) (k0_t2 : Fin (k0_t2_loop i).trips) : BitVec 32 :=
  let c0_i32_85 : BitVec 32 := 0#32
  let c0_i32_86 : BitVec 32 := 0#32
  let arg1 : BitVec 32 := BitVec.ofNat 32 (i 1).val
  let c0_i32_81 : BitVec 32 := 0#32
  let v551 : BitVec 32 := Scalar.subi arg1 c0_i32_81
  let c1_i32 : BitVec 32 := 1#32
  let c1_i32_82 : BitVec 32 := 1#32
  let v552 : BitVec 32 := Scalar.subi c1_i32 c1_i32_82
  let v553 : BitVec 32 := Scalar.addi v551 v552
  let c1_i32_83 : BitVec 32 := 1#32
  let v554 : BitVec 32 := Scalar.divsi v553 c1_i32_83
  let v555 : BitVec 32 := Scalar.subi v554 c0_i32_86
  let c1_i32_87 : BitVec 32 := 1#32
  let v557 : BitVec 32 := Scalar.divsi v555 c1_i32_87
  let v558 : BitVec 32 := Scalar.muli v557 c1_i32_87
  let v559 : BitVec 32 := Scalar.addi c0_i32_86 v558
  let c1_i32_89 : BitVec 32 := 1#32
  let arg14 : BitVec 32 := Scf.iv v559 c1_i32_89 k0_t2
  let c1_i32_84 : BitVec 32 := 1#32
  let v702 : BitVec 32 := Scalar.muli arg14 c1_i32_84
  let v703 : BitVec 32 := Scalar.addi c0_i32_85 v702
  let c512_i32_145 : BitVec 32 := 512#32
  let v704 : BitVec 32 := Scalar.muli v703 c512_i32_145
  v704
def k0_off10 (i : grid0.Coords) (k0_t2 : Fin (k0_t2_loop i).trips) : Fin 3 → Nat :=
  let c0_146 : Index := 0#32
  let c0_i32_85 : BitVec 32 := 0#32
  let c0_i32_86 : BitVec 32 := 0#32
  let arg1 : BitVec 32 := BitVec.ofNat 32 (i 1).val
  let c0_i32_81 : BitVec 32 := 0#32
  let v551 : BitVec 32 := Scalar.subi arg1 c0_i32_81
  let c1_i32 : BitVec 32 := 1#32
  let c1_i32_82 : BitVec 32 := 1#32
  let v552 : BitVec 32 := Scalar.subi c1_i32 c1_i32_82
  let v553 : BitVec 32 := Scalar.addi v551 v552
  let c1_i32_83 : BitVec 32 := 1#32
  let v554 : BitVec 32 := Scalar.divsi v553 c1_i32_83
  let v555 : BitVec 32 := Scalar.subi v554 c0_i32_86
  let c1_i32_87 : BitVec 32 := 1#32
  let v557 : BitVec 32 := Scalar.divsi v555 c1_i32_87
  let v558 : BitVec 32 := Scalar.muli v557 c1_i32_87
  let v559 : BitVec 32 := Scalar.addi c0_i32_86 v558
  let c1_i32_89 : BitVec 32 := 1#32
  let arg14 : BitVec 32 := Scf.iv v559 c1_i32_89 k0_t2
  let c1_i32_84 : BitVec 32 := 1#32
  let v702 : BitVec 32 := Scalar.muli arg14 c1_i32_84
  let v703 : BitVec 32 := Scalar.addi c0_i32_85 v702
  let c512_i32_145 : BitVec 32 := 512#32
  let v704 : BitVec 32 := Scalar.muli v703 c512_i32_145
  let v705 : BitVec 32 := v704
  let v706 : Index := Scalar.indexCast v705
  let c0_147 : Index := 0#32
  ![0, v706.toNat, 0]
def k0_off11 (i : grid0.Coords) (k0_t2 : Fin (k0_t2_loop i).trips) : Fin 2 → Nat :=
  let c0_i32_85 : BitVec 32 := 0#32
  let c0_i32_86 : BitVec 32 := 0#32
  let arg1 : BitVec 32 := BitVec.ofNat 32 (i 1).val
  let c0_i32_81 : BitVec 32 := 0#32
  let v551 : BitVec 32 := Scalar.subi arg1 c0_i32_81
  let c1_i32 : BitVec 32 := 1#32
  let c1_i32_82 : BitVec 32 := 1#32
  let v552 : BitVec 32 := Scalar.subi c1_i32 c1_i32_82
  let v553 : BitVec 32 := Scalar.addi v551 v552
  let c1_i32_83 : BitVec 32 := 1#32
  let v554 : BitVec 32 := Scalar.divsi v553 c1_i32_83
  let v555 : BitVec 32 := Scalar.subi v554 c0_i32_86
  let c1_i32_87 : BitVec 32 := 1#32
  let v557 : BitVec 32 := Scalar.divsi v555 c1_i32_87
  let v558 : BitVec 32 := Scalar.muli v557 c1_i32_87
  let v559 : BitVec 32 := Scalar.addi c0_i32_86 v558
  let c1_i32_89 : BitVec 32 := 1#32
  let arg14 : BitVec 32 := Scf.iv v559 c1_i32_89 k0_t2
  let c1_i32_84 : BitVec 32 := 1#32
  let v702 : BitVec 32 := Scalar.muli arg14 c1_i32_84
  let v703 : BitVec 32 := Scalar.addi c0_i32_85 v702
  let c512_i32_145 : BitVec 32 := 512#32
  let v704 : BitVec 32 := Scalar.muli v703 c512_i32_145
  let v705 : BitVec 32 := v704
  let v712 : Index := Scalar.indexCast v705
  let c0_152 : Index := 0#32
  ![v712.toNat, 0]
def k0_off12 (i : grid0.Coords) (k0_t2 : Fin (k0_t2_loop i).trips) : Fin 2 → Nat :=
  let c0_159 : Index := 0#32
  let c0_i32_85 : BitVec 32 := 0#32
  let c0_i32_86 : BitVec 32 := 0#32
  let arg1 : BitVec 32 := BitVec.ofNat 32 (i 1).val
  let c0_i32_81 : BitVec 32 := 0#32
  let v551 : BitVec 32 := Scalar.subi arg1 c0_i32_81
  let c1_i32 : BitVec 32 := 1#32
  let c1_i32_82 : BitVec 32 := 1#32
  let v552 : BitVec 32 := Scalar.subi c1_i32 c1_i32_82
  let v553 : BitVec 32 := Scalar.addi v551 v552
  let c1_i32_83 : BitVec 32 := 1#32
  let v554 : BitVec 32 := Scalar.divsi v553 c1_i32_83
  let v555 : BitVec 32 := Scalar.subi v554 c0_i32_86
  let c1_i32_87 : BitVec 32 := 1#32
  let v557 : BitVec 32 := Scalar.divsi v555 c1_i32_87
  let v558 : BitVec 32 := Scalar.muli v557 c1_i32_87
  let v559 : BitVec 32 := Scalar.addi c0_i32_86 v558
  let c1_i32_89 : BitVec 32 := 1#32
  let arg14 : BitVec 32 := Scf.iv v559 c1_i32_89 k0_t2
  let c1_i32_84 : BitVec 32 := 1#32
  let v702 : BitVec 32 := Scalar.muli arg14 c1_i32_84
  let v703 : BitVec 32 := Scalar.addi c0_i32_85 v702
  let c512_i32_145 : BitVec 32 := 512#32
  let v704 : BitVec 32 := Scalar.muli v703 c512_i32_145
  let v705 : BitVec 32 := v704
  let v743 : Index := Scalar.indexCast v705
  ![0, v743.toNat]
def k0_off13 (i : grid0.Coords) : Fin 3 → Nat :=
  let c0_104 : Index := 0#32
  let arg1 : BitVec 32 := BitVec.ofNat 32 (i 1).val
  let c512_i32 : BitVec 32 := 512#32
  let v0 : BitVec 32 := Scalar.muli arg1 c512_i32
  let v1 : BitVec 32 := v0
  let v608 : Index := Scalar.indexCast v1
  let c0_105 : Index := 0#32
  ![0, v608.toNat, 0]
def k0_off14 (i : grid0.Coords) : Fin 2 → Nat :=
  let arg1 : BitVec 32 := BitVec.ofNat 32 (i 1).val
  let c512_i32 : BitVec 32 := 512#32
  let v0 : BitVec 32 := Scalar.muli arg1 c512_i32
  let v1 : BitVec 32 := v0
  let v614 : Index := Scalar.indexCast v1
  let c0_110 : Index := 0#32
  ![v614.toNat, 0]
def cc0_transform_0 (i : grid0.Coords) : Fin 1 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_2 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_3 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_4 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_5 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_6 (i : grid0.Coords) : Fin 3 → Nat :=
  let arg0 : BitVec 32 := BitVec.ofNat 32 (i 0).val
  let arg1 : BitVec 32 := BitVec.ofNat 32 (i 1).val
  let c56_i32 : BitVec 32 := 56#32
  let v0 : BitVec 32 := Scalar.divsi arg0 c56_i32
  let c0_i32 : BitVec 32 := 0#32
  let v1 : BitVec 1 := Scalar.cmpi .sgt arg0 c0_i32
  let v2 : BitVec 32 := Scalar.extui v1
  let c0_i32_0 : BitVec 32 := 0#32
  let v3 : BitVec 1 := Scalar.cmpi .slt arg0 c0_i32_0
  let v4 : BitVec 32 := Scalar.extui v3
  let v5 : BitVec 32 := Scalar.subi v2 v4
  let c0_i32_1 : BitVec 32 := 0#32
  let v6 : BitVec 1 := Scalar.cmpi .sgt c56_i32 c0_i32_1
  let v7 : BitVec 32 := Scalar.extui v6
  let c0_i32_2 : BitVec 32 := 0#32
  let v8 : BitVec 1 := Scalar.cmpi .slt c56_i32 c0_i32_2
  let v9 : BitVec 32 := Scalar.extui v8
  let v10 : BitVec 32 := Scalar.subi v7 v9
  let v11 : BitVec 1 := Scalar.cmpi .ne v5 v10
  let v12 : BitVec 32 := Scalar.remsi arg0 c56_i32
  let c0_i32_3 : BitVec 32 := 0#32
  let v13 : BitVec 1 := Scalar.cmpi .ne v12 c0_i32_3
  let v14 : BitVec 1 := Scalar.andi v11 v13
  let c1_i32 : BitVec 32 := 1#32
  let v15 : BitVec 32 := Scalar.subi v0 c1_i32
  let v16 : BitVec 32 := Scalar.select v14 v15 v0
  let c56_i32_4 : BitVec 32 := 56#32
  let c0_i32_5 : BitVec 32 := 0#32
  let v17 : BitVec 1 := Scalar.cmpi .eq c56_i32_4 c0_i32_5
  let c1_i32_6 : BitVec 32 := 1#32
  let v18 : BitVec 32 := Scalar.select v17 c1_i32_6 c56_i32_4
  let v19 : BitVec 32 := Scalar.remsi arg0 v18
  let c0_i32_7 : BitVec 32 := 0#32
  let v20 : BitVec 1 := Scalar.cmpi .ne v19 c0_i32_7
  let c0_i32_8 : BitVec 32 := 0#32
  let v21 : BitVec 1 := Scalar.cmpi .slt v19 c0_i32_8
  let c0_i32_9 : BitVec 32 := 0#32
  let v22 : BitVec 1 := Scalar.cmpi .slt v18 c0_i32_9
  let v23 : BitVec 1 := Scalar.xori v21 v22
  let v24 : BitVec 1 := Scalar.andi v23 v20
  let v25 : BitVec 32 := Scalar.addi v19 v18
  let v26 : BitVec 32 := Scalar.select v24 v25 v19
  let c0_i32_10 : BitVec 32 := 0#32
  ![v16.toNat, arg1.toNat, v26.toNat]

abbrev stage0_0 : Fin 1 → Memref sig .tc .smem S112 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![false, false]

abbrev stage0_1 : Fin 2 → Memref sig .tc .vmem S1x512x128 .fp8e4m3 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S1x16384x128 .fp8e4m3 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false]

abbrev stage0_3 : Fin 2 → Memref sig .tc .vmem S1x128x16384 .fp8e4m3 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, false]

abbrev stage0_4 : Fin 2 → Memref sig .tc .vmem S1x256x64 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, false]

abbrev stage0_5 : Fin 2 → Memref sig .tc .vmem S1x32x512 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, false]

abbrev stage0_6 : Fin 2 → Memref sig .tc .vmem S1x512x128 .bf16 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, true]
-- ==== KernelIdeal.lean ====
variable {F : FTy → Type} [FloatOps F] [Named F]
def κ : String → Option EReal := fun
  | "log2e" => some (((Real.log 2)⁻¹ : ℝ) : EReal)
  | _ => none
-- ==== ReferenceIdeal.lean ====
abbrev S2x16384x56x128 : Shape := ⟨4, ![2, 16384, 56, 128]⟩
abbrev S2x56 : Shape := ⟨2, ![2, 56]⟩
abbrev S2x16384x56 : Shape := ⟨3, ![2, 16384, 56]⟩
abbrev S2x56x16384 : Shape := ⟨3, ![2, 56, 16384]⟩
abbrev S256 : Shape := ⟨1, ![256]⟩
abbrev S64 : Shape := ⟨1, ![64]⟩
abbrev S_ : Shape := ⟨0, ![]⟩
abbrev S256x64 : Shape := ⟨2, ![256, 64]⟩
abbrev S16384 : Shape := ⟨1, ![16384]⟩
abbrev S2x56x16384x16384 : Shape := ⟨4, ![2, 56, 16384, 16384]⟩
abbrev S2x56x1x1 : Shape := ⟨4, ![2, 56, 1, 1]⟩
abbrev S2x56x1x16384 : Shape := ⟨4, ![2, 56, 1, 16384]⟩
abbrev S2x56x16384x256x64 : Shape := ⟨5, ![2, 56, 16384, 256, 64]⟩
abbrev S2x56x16384x256 : Shape := ⟨4, ![2, 56, 16384, 256]⟩
abbrev S2x56x16384x256x1 : Shape := ⟨5, ![2, 56, 16384, 256, 1]⟩
abbrev S1x256 : Shape := ⟨2, ![1, 256]⟩
abbrev S16384x1 : Shape := ⟨2, ![16384, 1]⟩
abbrev S16384x256 : Shape := ⟨2, ![16384, 256]⟩
abbrev S1x1x64 : Shape := ⟨3, ![1, 1, 64]⟩
abbrev S16384x1x1 : Shape := ⟨3, ![16384, 1, 1]⟩
abbrev S16384x1x64 : Shape := ⟨3, ![16384, 1, 64]⟩
abbrev S16384x256x1 : Shape := ⟨3, ![16384, 256, 1]⟩
abbrev S16384x256x64 : Shape := ⟨3, ![16384, 256, 64]⟩
abbrev S2x56x16384x1x1 : Shape := ⟨5, ![2, 56, 16384, 1, 1]⟩
abbrev S2x56x16384x1 : Shape := ⟨4, ![2, 56, 16384, 1]⟩
abbrev S2x56x128x16384 : Shape := ⟨4, ![2, 56, 128, 16384]⟩
abbrev S2x16384x7168 : Shape := ⟨3, ![2, 16384, 7168]⟩

abbrev nBuf : Space → Nat
  | .hbm => 133
  | .vmem => 0
  | .smem => 0
  | _ => 0

abbrev hbmTy0_0 (i : Nat) : BufTy := match i % 128 with
  | 0 => ⟨S2x16384x56x128, .f32⟩
  | 1 => ⟨S2x56, .f32⟩
  | 2 => ⟨S2x16384x56x128, .f32⟩
  | 3 => ⟨S2x16384x56, .f32⟩
  | 4 => ⟨S2x16384x56x128, .f32⟩
  | 5 => ⟨S2x16384x56, .f32⟩
  | 6 => ⟨S2x16384x56x128, .bf16⟩
  | 7 => ⟨S2x56x16384, .f32⟩
  | 8 => ⟨S2x56x16384, .f32⟩
  | 9 => ⟨S256, .i32⟩
  | 10 => ⟨S64, .i32⟩
  | 11 => ⟨S_, .i32⟩
  | 12 => ⟨S64, .i32⟩
  | 13 => ⟨S64, .i1⟩
  | 14 => ⟨S256x64, .i32⟩
  | 15 => ⟨S16384, .i32⟩
  | 16 => ⟨S256x64, .i32⟩
  | 17 => ⟨S16384, .i32⟩
  | 18 => ⟨S2x56x16384x16384, .f32⟩
  | 19 => ⟨S_, .f32⟩
  | 20 => ⟨S2x56, .f32⟩
  | 21 => ⟨S2x56, .f32⟩
  | 22 => ⟨S2x56x1x1, .f32⟩
  | 23 => ⟨S2x56x16384x16384, .f32⟩
  | 24 => ⟨S2x56x16384x16384, .f32⟩
  | 25 => ⟨S2x56x1x16384, .f32⟩
  | 26 => ⟨S2x56x16384x16384, .f32⟩
  | 27 => ⟨S2x56x16384x16384, .f32⟩
  | 28 => ⟨S2x56x16384x256x64, .f32⟩
  | 29 => ⟨S_, .f32⟩
  | 30 => ⟨S_, .f32⟩
  | 31 => ⟨S2x56x16384x256x64, .i1⟩
  | 32 => ⟨S2x56x16384x256x64, .f32⟩
  | 33 => ⟨S2x56x16384x256x64, .f32⟩
  | 34 => ⟨S_, .f32⟩
  | 35 => ⟨S2x56x16384x256, .f32⟩
  | 36 => ⟨S2x56x16384x256x1, .f32⟩
  | 37 => ⟨S2x56x16384x256x64, .f32⟩
  | 38 => ⟨S2x56x16384x256x64, .f32⟩
  | 39 => ⟨S_, .f32⟩
  | 40 => ⟨S_, .f32⟩
  | 41 => ⟨S2x56x16384x256x64, .i1⟩
  | 42 => ⟨S2x56x16384x256x64, .f32⟩
  | 43 => ⟨S2x56x16384x256x64, .f32⟩
  | 44 => ⟨S2x56x16384x256x64, .f32⟩
  | 45 => ⟨S_, .f32⟩
  | 46 => ⟨S2x56x16384x256, .f32⟩
  | 47 => ⟨S2x56x16384x256, .f32⟩
  | 48 => ⟨S2x56x16384x256, .f32⟩
  | 49 => ⟨S1x256, .i32⟩
  | 50 => ⟨S16384x1, .i32⟩
  | 51 => ⟨S16384x256, .i32⟩
  | 52 => ⟨S16384x256, .i32⟩
  | 53 => ⟨S16384x256, .i1⟩
  | 54 => ⟨S1x256, .i32⟩
  | 55 => ⟨S16384x1, .i32⟩
  | 56 => ⟨S16384x256, .i32⟩
  | 57 => ⟨S16384x256, .i32⟩
  | 58 => ⟨S16384x256, .i1⟩
  | 59 => ⟨S1x1x64, .i32⟩
  | 60 => ⟨S16384x1x1, .i32⟩
  | 61 => ⟨S16384x1x64, .i32⟩
  | 62 => ⟨S16384x1x64, .i32⟩
  | 63 => ⟨S16384x1x64, .i1⟩
  | 64 => ⟨S16384x256x1, .i1⟩
  | 65 => ⟨S1x1x64, .i1⟩
  | 66 => ⟨S16384x256x64, .i1⟩
  | 67 => ⟨S16384x256x64, .i1⟩
  | 68 => ⟨S16384x256x64, .i1⟩
  | 69 => ⟨S16384x256x64, .i1⟩
  | 70 => ⟨S16384x256x64, .i1⟩
  | 71 => ⟨S16384x256x1, .i1⟩
  | 72 => ⟨S64, .i1⟩
  | 73 => ⟨S1x1x64, .i1⟩
  | 74 => ⟨S16384x256x64, .i1⟩
  | 75 => ⟨S16384x256x64, .i1⟩
  | 76 => ⟨S16384x256x64, .i1⟩
  | 77 => ⟨S16384x256x64, .i1⟩
  | 78 => ⟨S_, .f32⟩
  | 79 => ⟨S_, .f32⟩
  | 80 => ⟨S2x56x16384x256x64, .i1⟩
  | 81 => ⟨S2x56x16384x256x64, .f32⟩
  | 82 => ⟨S2x56x16384x256x64, .f32⟩
  | 83 => ⟨S_, .f32⟩
  | 84 => ⟨S2x56x16384, .f32⟩
  | 85 => ⟨S2x56x16384x1x1, .f32⟩
  | 86 => ⟨S2x56x16384x256x64, .f32⟩
  | 87 => ⟨S2x56x16384x256x64, .f32⟩
  | 88 => ⟨S_, .f32⟩
  | 89 => ⟨S_, .f32⟩
  | 90 => ⟨S2x56x16384x256x64, .i1⟩
  | 91 => ⟨S2x56x16384x256x64, .f32⟩
  | 92 => ⟨S2x56x16384x256x64, .f32⟩
  | 93 => ⟨S2x56x16384x256x64, .f32⟩
  | 94 => ⟨S_, .f32⟩
  | 95 => ⟨S2x56x16384, .f32⟩
  | 96 => ⟨S2x56x16384, .f32⟩
  | 97 => ⟨S2x56x16384, .f32⟩
  | 98 => ⟨S2x56x16384x256x1, .f32⟩
  | 99 => ⟨S2x56x16384x256, .f32⟩
  | 100 => ⟨S2x56x16384x256, .f32⟩
  | 101 => ⟨S_, .f32⟩
  | 102 => ⟨S_, .f32⟩
  | 103 => ⟨S2x56x16384x256, .i1⟩
  | 104 => ⟨S2x56x16384x256, .f32⟩
  | 105 => ⟨S2x56x16384x256, .f32⟩
  | 106 => ⟨S2x56x16384x1, .f32⟩
  | 107 => ⟨S2x56x16384x256, .f32⟩
  | 108 => ⟨S2x56x16384x256, .f32⟩
  | 109 => ⟨S16384x256x1, .i1⟩
  | 110 => ⟨S1x1x64, .i1⟩
  | 111 => ⟨S16384x256x64, .i1⟩
  | 112 => ⟨S16384x256x64, .i1⟩
  | 113 => ⟨S16384x256x64, .i1⟩
  | 114 => ⟨S16384x256x64, .i1⟩
  | 115 => ⟨S2x56x16384x256x1, .f32⟩
  | 116 => ⟨S2x56x16384x256x64, .f32⟩
  | 117 => ⟨S2x56x16384x256x64, .f32⟩
  | 118 => ⟨S_, .f32⟩
  | 119 => ⟨S_, .f32⟩
  | 120 => ⟨S2x56x16384x256x64, .i1⟩
  | 121 => ⟨S2x56x16384x256x64, .f32⟩
  | 122 => ⟨S2x56x16384x256x64, .f32⟩
  | 123 => ⟨S2x56x16384x256x64, .f32⟩
  | 124 => ⟨S2x56x16384x16384, .f32⟩
  | 125 => ⟨S2x56x1x16384, .f32⟩
  | 126 => ⟨S2x56x16384x16384, .f32⟩
  | 127 => ⟨S2x56x16384x16384, .f32⟩
  | _ => ⟨S2x16384x56x128, .f32⟩

abbrev hbmTy0_1 (i : Nat) : BufTy := match i % 128 with
  | 0 => ⟨S2x56x16384x16384, .bf16⟩
  | 1 => ⟨S2x56x128x16384, .f32⟩
  | 2 => ⟨S2x16384x56x128, .f32⟩
  | 3 => ⟨S2x16384x56x128, .bf16⟩
  | 4 => ⟨S2x16384x7168, .bf16⟩
  | _ => ⟨S2x16384x56x128, .f32⟩

abbrev hbmTy (i : Nat) : BufTy := match i / 128 with
  | 0 => hbmTy0_0 i
  | 1 => hbmTy0_1 i
  | _ => ⟨S2x16384x56x128, .f32⟩

abbrev bufTy : (tb : Table) → Fin (tcTables nBuf tb) → BufTy
  | .hbm, ⟨i, _⟩ => hbmTy i
  | _, _ => ⟨S2x16384x56x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_c : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_v8 : Ref sig .tc := ⟨.hbm, 15, rfl⟩
abbrev main_v9 : Ref sig .tc := ⟨.hbm, 16, rfl⟩
abbrev main_v10 : Ref sig .tc := ⟨.hbm, 17, rfl⟩
abbrev main_v11 : Ref sig .tc := ⟨.hbm, 18, rfl⟩
abbrev main_cst : Ref sig .tc := ⟨.hbm, 19, rfl⟩
abbrev main_v12 : Ref sig .tc := ⟨.hbm, 20, rfl⟩
abbrev main_v13 : Ref sig .tc := ⟨.hbm, 21, rfl⟩
abbrev main_v14 : Ref sig .tc := ⟨.hbm, 22, rfl⟩
abbrev main_v15 : Ref sig .tc := ⟨.hbm, 23, rfl⟩
abbrev main_v16 : Ref sig .tc := ⟨.hbm, 24, rfl⟩
abbrev main_v17 : Ref sig .tc := ⟨.hbm, 25, rfl⟩
abbrev main_v18 : Ref sig .tc := ⟨.hbm, 26, rfl⟩
abbrev main_v19 : Ref sig .tc := ⟨.hbm, 27, rfl⟩
abbrev main_v20 : Ref sig .tc := ⟨.hbm, 28, rfl⟩
abbrev main_cst_0 : Ref sig .tc := ⟨.hbm, 29, rfl⟩
abbrev main_call0_v0 : Ref sig .tc := ⟨.hbm, 30, rfl⟩
abbrev main_call0_v1 : Ref sig .tc := ⟨.hbm, 31, rfl⟩
abbrev main_call0_v2 : Ref sig .tc := ⟨.hbm, 32, rfl⟩
abbrev main_v21 : Ref sig .tc := ⟨.hbm, 33, rfl⟩
abbrev main_cst_1 : Ref sig .tc := ⟨.hbm, 34, rfl⟩
abbrev main_v22 : Ref sig .tc := ⟨.hbm, 35, rfl⟩
abbrev main_v23 : Ref sig .tc := ⟨.hbm, 36, rfl⟩
abbrev main_v24 : Ref sig .tc := ⟨.hbm, 37, rfl⟩
abbrev main_v25 : Ref sig .tc := ⟨.hbm, 38, rfl⟩
abbrev main_cst_2 : Ref sig .tc := ⟨.hbm, 39, rfl⟩
abbrev main_call1_v0 : Ref sig .tc := ⟨.hbm, 40, rfl⟩
abbrev main_call1_v1 : Ref sig .tc := ⟨.hbm, 41, rfl⟩
abbrev main_call1_v2 : Ref sig .tc := ⟨.hbm, 42, rfl⟩
abbrev main_v26 : Ref sig .tc := ⟨.hbm, 43, rfl⟩
abbrev main_v27 : Ref sig .tc := ⟨.hbm, 44, rfl⟩
abbrev main_cst_3 : Ref sig .tc := ⟨.hbm, 45, rfl⟩
abbrev main_v28 : Ref sig .tc := ⟨.hbm, 46, rfl⟩
abbrev main_v29 : Ref sig .tc := ⟨.hbm, 47, rfl⟩
abbrev main_v30 : Ref sig .tc := ⟨.hbm, 48, rfl⟩
abbrev main_v31 : Ref sig .tc := ⟨.hbm, 49, rfl⟩
abbrev main_v32 : Ref sig .tc := ⟨.hbm, 50, rfl⟩
abbrev main_v33 : Ref sig .tc := ⟨.hbm, 51, rfl⟩
abbrev main_v34 : Ref sig .tc := ⟨.hbm, 52, rfl⟩
abbrev main_v35 : Ref sig .tc := ⟨.hbm, 53, rfl⟩
abbrev main_v36 : Ref sig .tc := ⟨.hbm, 54, rfl⟩
abbrev main_v37 : Ref sig .tc := ⟨.hbm, 55, rfl⟩
abbrev main_v38 : Ref sig .tc := ⟨.hbm, 56, rfl⟩
abbrev main_v39 : Ref sig .tc := ⟨.hbm, 57, rfl⟩
abbrev main_v40 : Ref sig .tc := ⟨.hbm, 58, rfl⟩
abbrev main_v41 : Ref sig .tc := ⟨.hbm, 59, rfl⟩
abbrev main_v42 : Ref sig .tc := ⟨.hbm, 60, rfl⟩
abbrev main_v43 : Ref sig .tc := ⟨.hbm, 61, rfl⟩
abbrev main_v44 : Ref sig .tc := ⟨.hbm, 62, rfl⟩
abbrev main_v45 : Ref sig .tc := ⟨.hbm, 63, rfl⟩
abbrev main_v46 : Ref sig .tc := ⟨.hbm, 64, rfl⟩
abbrev main_v47 : Ref sig .tc := ⟨.hbm, 65, rfl⟩
abbrev main_v48 : Ref sig .tc := ⟨.hbm, 66, rfl⟩
abbrev main_v49 : Ref sig .tc := ⟨.hbm, 67, rfl⟩
abbrev main_v50 : Ref sig .tc := ⟨.hbm, 68, rfl⟩
abbrev main_v51 : Ref sig .tc := ⟨.hbm, 69, rfl⟩
abbrev main_v52 : Ref sig .tc := ⟨.hbm, 70, rfl⟩
abbrev main_v53 : Ref sig .tc := ⟨.hbm, 71, rfl⟩
abbrev main_v54 : Ref sig .tc := ⟨.hbm, 72, rfl⟩
abbrev main_v55 : Ref sig .tc := ⟨.hbm, 73, rfl⟩
abbrev main_v56 : Ref sig .tc := ⟨.hbm, 74, rfl⟩
abbrev main_v57 : Ref sig .tc := ⟨.hbm, 75, rfl⟩
abbrev main_v58 : Ref sig .tc := ⟨.hbm, 76, rfl⟩
abbrev main_v59 : Ref sig .tc := ⟨.hbm, 77, rfl⟩
abbrev main_cst_4 : Ref sig .tc := ⟨.hbm, 78, rfl⟩
abbrev main_call2_v0 : Ref sig .tc := ⟨.hbm, 79, rfl⟩
abbrev main_call2_v1 : Ref sig .tc := ⟨.hbm, 80, rfl⟩
abbrev main_call2_v2 : Ref sig .tc := ⟨.hbm, 81, rfl⟩
abbrev main_v60 : Ref sig .tc := ⟨.hbm, 82, rfl⟩
abbrev main_cst_5 : Ref sig .tc := ⟨.hbm, 83, rfl⟩
abbrev main_v61 : Ref sig .tc := ⟨.hbm, 84, rfl⟩
abbrev main_v62 : Ref sig .tc := ⟨.hbm, 85, rfl⟩
abbrev main_v63 : Ref sig .tc := ⟨.hbm, 86, rfl⟩
abbrev main_v64 : Ref sig .tc := ⟨.hbm, 87, rfl⟩
abbrev main_cst_6 : Ref sig .tc := ⟨.hbm, 88, rfl⟩
abbrev main_call3_v0 : Ref sig .tc := ⟨.hbm, 89, rfl⟩
abbrev main_call3_v1 : Ref sig .tc := ⟨.hbm, 90, rfl⟩
abbrev main_call3_v2 : Ref sig .tc := ⟨.hbm, 91, rfl⟩
abbrev main_v65 : Ref sig .tc := ⟨.hbm, 92, rfl⟩
abbrev main_v66 : Ref sig .tc := ⟨.hbm, 93, rfl⟩
abbrev main_cst_7 : Ref sig .tc := ⟨.hbm, 94, rfl⟩
abbrev main_v67 : Ref sig .tc := ⟨.hbm, 95, rfl⟩
abbrev main_v68 : Ref sig .tc := ⟨.hbm, 96, rfl⟩
abbrev main_v69 : Ref sig .tc := ⟨.hbm, 97, rfl⟩
abbrev main_v70 : Ref sig .tc := ⟨.hbm, 98, rfl⟩
abbrev main_v71 : Ref sig .tc := ⟨.hbm, 99, rfl⟩
abbrev main_v72 : Ref sig .tc := ⟨.hbm, 100, rfl⟩
abbrev main_cst_8 : Ref sig .tc := ⟨.hbm, 101, rfl⟩
abbrev main_call4_v0 : Ref sig .tc := ⟨.hbm, 102, rfl⟩
abbrev main_call4_v1 : Ref sig .tc := ⟨.hbm, 103, rfl⟩
abbrev main_call4_v2 : Ref sig .tc := ⟨.hbm, 104, rfl⟩
abbrev main_v73 : Ref sig .tc := ⟨.hbm, 105, rfl⟩
abbrev main_v74 : Ref sig .tc := ⟨.hbm, 106, rfl⟩
abbrev main_v75 : Ref sig .tc := ⟨.hbm, 107, rfl⟩
abbrev main_v76 : Ref sig .tc := ⟨.hbm, 108, rfl⟩
abbrev main_v77 : Ref sig .tc := ⟨.hbm, 109, rfl⟩
abbrev main_v78 : Ref sig .tc := ⟨.hbm, 110, rfl⟩
abbrev main_v79 : Ref sig .tc := ⟨.hbm, 111, rfl⟩
abbrev main_v80 : Ref sig .tc := ⟨.hbm, 112, rfl⟩
abbrev main_v81 : Ref sig .tc := ⟨.hbm, 113, rfl⟩
abbrev main_v82 : Ref sig .tc := ⟨.hbm, 114, rfl⟩
abbrev main_v83 : Ref sig .tc := ⟨.hbm, 115, rfl⟩
abbrev main_v84 : Ref sig .tc := ⟨.hbm, 116, rfl⟩
abbrev main_v85 : Ref sig .tc := ⟨.hbm, 117, rfl⟩
abbrev main_cst_9 : Ref sig .tc := ⟨.hbm, 118, rfl⟩
abbrev main_call5_v0 : Ref sig .tc := ⟨.hbm, 119, rfl⟩
abbrev main_call5_v1 : Ref sig .tc := ⟨.hbm, 120, rfl⟩
abbrev main_call5_v2 : Ref sig .tc := ⟨.hbm, 121, rfl⟩
abbrev main_v86 : Ref sig .tc := ⟨.hbm, 122, rfl⟩
abbrev main_v87 : Ref sig .tc := ⟨.hbm, 123, rfl⟩
abbrev main_v88 : Ref sig .tc := ⟨.hbm, 124, rfl⟩
abbrev main_v89 : Ref sig .tc := ⟨.hbm, 125, rfl⟩
abbrev main_v90 : Ref sig .tc := ⟨.hbm, 126, rfl⟩
abbrev main_v91 : Ref sig .tc := ⟨.hbm, 127, rfl⟩
abbrev main_v92 : Ref sig .tc := ⟨.hbm, 128, rfl⟩
abbrev main_v93 : Ref sig .tc := ⟨.hbm, 129, rfl⟩
abbrev main_v94 : Ref sig .tc := ⟨.hbm, 130, rfl⟩
abbrev main_v95 : Ref sig .tc := ⟨.hbm, 131, rfl⟩
abbrev main_v96 : Ref sig .tc := ⟨.hbm, 132, rfl⟩

abbrev nD : Nat := 1
abbrev τ : Topo := Topo.v7x

variable {F : FTy → Type} [FloatOps F]
-- ==== Proof.Loop.lean ====
/-
  The kernel body's loop over the past key groups, by its values: the state it carries in its three scratch
  buffers (running maximum, running sum, unnormalised output) after `n` groups is `St … n`, one step a pure
  function of the loaded blocks.  The loop's invariant (`loopInv1`) says each scratch holds that state; the
  remainder loop makes no trip (`loopInv2`).
-/
module

public import proofs.«01_k».proof.Proof.Gen.KernelIdeal.Skeleton
public import proofs.«01_k».proof.Proof.Gen.KernelIdeal.Frame
public import Idealize.ShloMosaic.Lib.Exec
public import Mathlib.Tactic.NormNum
public import Mathlib.Tactic.FinCases
public import Idealize.ShloMosaic.Lib.Tactic
public import Idealize.ShloMosaic.Lib.Pipeline.Kit
public import Idealize.ShloMosaic.Lib.Pipeline.Value

@[expose] public section

set_option maxRecDepth 16384

noncomputable section

namespace Cert.KernelIdeal.Body

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem

variable {F : FTy → Type} [FloatOps F] [Named F]

/-- The resource algebra of the frame kit. -/
local notation "𝕄G" => MT nD τ sig Unit (Elt F) ℕ (UR sig nD τ) ℕ

/-- The main loop makes one trip per past group: as many as the query tile's number. -/
theorem trips1 (i : grid0.Coords) : (k0_t1_loop i).trips = (i 1).val := by
  have h : ∀ j : Fin 32, Scf.Loop.trips (⟨0#32, Scalar.addi 0#32 (Scalar.muli (Scalar.divsi (Scalar.subi (Scalar.divsi (Scalar.addi (Scalar.subi (BitVec.ofNat 32 j.val) 0#32) (Scalar.subi 1#32 1#32)) 1#32) 0#32) 1#32) 1#32), 1#32⟩ : Scf.Loop 32) = j.val := by decide +kernel
  exact h (i 1)

/-- The remainder loop makes none. -/
theorem trips2 (i : grid0.Coords) : (k0_t2_loop i).trips = 0 := by
  have h : ∀ j : Fin 32, Scf.Loop.trips (⟨Scalar.addi 0#32 (Scalar.muli (Scalar.divsi (Scalar.subi (Scalar.divsi (Scalar.addi (Scalar.subi (BitVec.ofNat 32 j.val) 0#32) (Scalar.subi 1#32 1#32)) 1#32) 0#32) 1#32) 1#32), Scalar.addi 0#32 (Scalar.subi (Scalar.divsi (Scalar.addi (Scalar.subi (BitVec.ofNat 32 j.val) 0#32) (Scalar.subi 1#32 1#32)) 1#32) 0#32), 1#32⟩ : Scf.Loop 32) = 0 := by decide +kernel
  exact h (i 1)

/-- What the loop carries: the running maximum, the running sum and the unnormalised output. -/
structure State (F : FTy → Type) where
  m : Vec F S1x512 .f32
  l : Vec F S1x512 .f32
  a : Vec F S128x512 .f32

abbrev r1 : Rect S1x512 := Rect.unit (s := S1x512) ![0, 0] S1x512.size inb_S1x512_S1x512_0_0
abbrev r2 : Rect S128x512 := Rect.unit (s := S128x512) ![0, 0] S128x512.size inb_S128x512_S128x512_0_0
abbrev rq : Rect S1x512x128 := Rect.unit (s := S1x512x128) ![0, 0, 0] S1x512x128.size inb_S1x512x128_S1x512x128_0_0_0

/-- One past group: the state after the group whose key block is `kb`, key scales `kk`, values `vv`, for the
    query block `qb`. -/
def stepSt (qb : Vec F S1x512x128 .fp8e4m3) (kb : Vec F S1x512x128 .fp8e4m3) (kk : Vec F S512x128 .f32)
    (vv : Vec F S128x512 .bf16) (s : State F) : State F where
  m := k0_pay97 (k0_pay6 kb qb kk s.m)
  l := k0_pay96 (k0_pay7 kb qb kk s.m) (k0_pay8 kb qb kk s.m) s.l
  a := k0_pay95 (k0_pay7 kb qb kk s.m) (k0_pay9 kb qb kk s.m) vv (constant S128x512 .f32 0x00000000#32) s.a

theorem stepSt_m {qb : Vec F S1x512x128 .fp8e4m3} {kb : Vec F S1x512x128 .fp8e4m3} {kk : Vec F S512x128 .f32}
    {vv : Vec F S128x512 .bf16} {s : State F} {w : Vec F S1x512 .f32} (h : w = s.m) :
    k0_pay97 (k0_pay6 kb qb kk w) = (stepSt qb kb kk vv s).m := by subst h; rfl
theorem stepSt_l {qb : Vec F S1x512x128 .fp8e4m3} {kb : Vec F S1x512x128 .fp8e4m3} {kk : Vec F S512x128 .f32}
    {vv : Vec F S128x512 .bf16} {s : State F} {w u : Vec F S1x512 .f32} (h : w = s.m) (h' : u = s.l) :
    k0_pay96 (k0_pay7 kb qb kk w) (k0_pay8 kb qb kk w) u = (stepSt qb kb kk vv s).l := by subst h h'; rfl
theorem stepSt_a {qb : Vec F S1x512x128 .fp8e4m3} {kb : Vec F S1x512x128 .fp8e4m3} {kk : Vec F S512x128 .f32}
    {vv : Vec F S128x512 .bf16} {s : State F} {w : Vec F S1x512 .f32} {u : Vec F S128x512 .f32} (h : w = s.m) (h' : u = s.a) :
    k0_pay95 (k0_pay7 kb qb kk w) (k0_pay9 kb qb kk w) vv (constant S128x512 .f32 0x00000000#32) u
      = (stepSt qb kb kk vv s).a := by subst h h'; rfl

/-- The state after `n` past groups. -/
def St (i : grid0.Coords) (x1 : Vec F S1x512x128 .fp8e4m3) (x2 : Vec F S1x16384x128 .fp8e4m3)
    (K : Vec F S16384x128 .f32) (W : Vec F S128x16384 .bf16) : ℕ → State F
  | 0 => ⟨k0_pay92, k0_pay93, k0_pay94⟩
  | n + 1 => if h : n < (k0_t1_loop i).trips then
      stepSt (View.ld x1 rq)
        (View.ld x2 (Rect.unit (s := S1x16384x128) (k0_off7 i ⟨n, h⟩) S1x512x128.size (k0_off7_inb i ⟨n, h⟩)))
        (View.ld K (Rect.unit (s := S16384x128) (k0_off8 i ⟨n, h⟩) S512x128.size (k0_off8_inb i ⟨n, h⟩)))
        (View.ld W (Rect.unit (s := S128x16384) (k0_off9 i ⟨n, h⟩) S128x512.size (k0_off9_inb i ⟨n, h⟩)))
        (St i x1 x2 K W n)
      else St i x1 x2 K W n

theorem St_succ (i : grid0.Coords) (x1 : Vec F S1x512x128 .fp8e4m3) (x2 : Vec F S1x16384x128 .fp8e4m3)
    (K : Vec F S16384x128 .f32) (W : Vec F S128x16384 .bf16) (n : Fin (k0_t1_loop i).trips) :
    St i x1 x2 K W (n.val + 1) = stepSt (View.ld x1 rq)
        (View.ld x2 (Rect.unit (s := S1x16384x128) (k0_off7 i n) S1x512x128.size (k0_off7_inb i n)))
        (View.ld K (Rect.unit (s := S16384x128) (k0_off8 i n) S512x128.size (k0_off8_inb i n)))
        (View.ld W (Rect.unit (s := S128x16384) (k0_off9 i n) S128x512.size (k0_off9_inb i n)))
        (St i x1 x2 K W n.val) := dif_pos n.isLt

theorem hz2 : (![0, 0] : Fin 2 → Nat) = fun _ => 0 := funext fun a => by fin_cases a <;> rfl
theorem hz3 : (![0, 0, 0] : Fin 3 → Nat) = fun _ => 0 := funext fun a => by fin_cases a <;> rfl

/-- A whole load of what one whole store left reads the payload. -/
theorem readCov1 (v : View sig .tc .vmem S1x512 .f32) (w : Vec F S1x512 .f32) :
    v.readCov [(⟨r1, w⟩ : View.Piece (Elt F) S1x512 .f32)] r1.toLoadRect = w := View.readCov_unit_zero v hz2 _ w
theorem readCov2 (v : View sig .tc .vmem S128x512 .f32) (w : Vec F S128x512 .f32) :
    v.readCov [(⟨r2, w⟩ : View.Piece (Elt F) S128x512 .f32)] r2.toLoadRect = w := View.readCov_unit_zero v hz2 _ w

/-- A whole store over a whole store leaves the later. -/
theorem writes1 (v : View sig .tc .vmem S1x512 .f32) (f : v.ty.Contents (Elt F)) (w w' w'' : Vec F S1x512 .f32) (h : w = w'') :
    v.writes (Elt F) f [⟨r1, w⟩, ⟨r1, w'⟩] = v.writes (Elt F) f [⟨r1, w''⟩] :=
  (View.writes_cons_drop _ _ _ _ _ _ (fun y hy => hy)).trans (by rw [h])
theorem writes2 (v : View sig .tc .vmem S128x512 .f32) (f : v.ty.Contents (Elt F)) (w w' w'' : Vec F S128x512 .f32) (h : w = w'') :
    v.writes (Elt F) f [⟨r2, w⟩, ⟨r2, w'⟩] = v.writes (Elt F) f [⟨r2, w''⟩] :=
  (View.writes_cons_drop _ _ _ _ _ _ (fun y hy => hy)).trans (by rw [h])

set_option maxHeartbeats 1000000 in
set_option warn.classDefReducibility false in
/-- THE MAIN LOOP's invariant: the four buffers it reads at their contents, the three it carries its state in
    holding `St … k`. -/
@[sl_loop] def loopInv1 (𝒱 : Variants) (c : Dev nD) (bd : Option 𝒱.V) (E : Set ℕ) (i : grid0.Coords) (arg2 : Memref sig .tc .smem S112 .f32) (harg2 : arg2.IsWhole) (arg3 : Memref sig .tc .vmem S1x512x128 .fp8e4m3) (harg3 : arg3.IsWhole) (arg4 : Memref sig .tc .vmem S1x16384x128 .fp8e4m3) (harg4 : arg4.IsWhole) (arg5 : Memref sig .tc .vmem S1x128x16384 .fp8e4m3) (harg5 : arg5.IsWhole) (arg6 : Memref sig .tc .vmem S1x256x64 .f32) (harg6 : arg6.IsWhole) (arg7 : Memref sig .tc .vmem S1x32x512 .f32) (harg7 : arg7.IsWhole) (arg8 : Memref sig .tc .vmem S1x512x128 .bf16) (harg8 : arg8.IsWhole) (arg9 : Memref sig .tc .vmem S16384x128 .f32) (harg9 : arg9.IsWhole) (arg10 : Memref sig .tc .vmem S128x16384 .bf16) (harg10 : arg10.IsWhole) (arg11 : Memref sig .tc .vmem S1x512 .f32) (harg11 : arg11.IsWhole) (arg12 : Memref sig .tc .vmem S1x512 .f32) (harg12 : arg12.IsWhole) (arg13 : Memref sig .tc .vmem S128x512 .f32) (harg13 : arg13.IsWhole) (v554 : BitVec 32) (c1_i32_84 : BitVec 32) (c0_i32_85 : BitVec 32) (c0_i32_86 : BitVec 32)
    (X3 : BufTy.Contents (Elt F) arg3.view.ty) (X4 : BufTy.Contents (Elt F) arg4.view.ty) (X9 : BufTy.Contents (Elt F) arg9.view.ty) (X10 : BufTy.Contents (Elt F) arg10.view.ty)
    (G11 : BufTy.Contents (Elt F) arg11.view.ty) (G12 : BufTy.Contents (Elt F) arg12.view.ty) (G13 : BufTy.Contents (Elt F) arg13.view.ty) :
    Idealize.ShloMosaic.LoopInv (M := 𝕄G) Idealize.ShloMosaic.frame (wpE (defs₀ (F := F)) 𝒱 (c : Thread nD τ) bd) E
    (k0_t1_loop i).lb (k0_t1_loop i).ub (k0_t1_loop i).st (k0_t1_ok i) () (k0_t1_body (F := F) i arg2 harg2 arg3 harg3 arg4 harg4 arg5 harg5 arg6 harg6 arg7 harg7 arg8 harg8 arg9 harg9 arg10 harg10 arg11 harg11 arg12 harg12 arg13 harg13 v554 c1_i32_84 c0_i32_85 c0_i32_86) where
  inv k _ := iprop((arg3.view.loc (c : Thread nD τ) ↦[arg3.view.set]{fullShare} X3) ∗ (arg4.view.loc (c : Thread nD τ) ↦[arg4.view.set]{fullShare} X4) ∗ (arg9.view.loc (c : Thread nD τ) ↦[arg9.view.set]{fullShare} X9) ∗ (arg10.view.loc (c : Thread nD τ) ↦[arg10.view.set]{fullShare} X10)
    ∗ (∃ f, (arg11.view.loc (c : Thread nD τ) ↦[arg11.view.set]{fullShare} f) ∗ ⌜f = arg11.view.writes (Elt F) G11 [⟨r1, (St i (arg3.view.read (Elt F) X3) (arg4.view.read (Elt F) X4) (arg9.view.read (Elt F) X9) (arg10.view.read (Elt F) X10) k).m⟩]⌝)
    ∗ (∃ f, (arg12.view.loc (c : Thread nD τ) ↦[arg12.view.set]{fullShare} f) ∗ ⌜f = arg12.view.writes (Elt F) G12 [⟨r1, (St i (arg3.view.read (Elt F) X3) (arg4.view.read (Elt F) X4) (arg9.view.read (Elt F) X9) (arg10.view.read (Elt F) X10) k).l⟩]⌝)
    ∗ (∃ f, (arg13.view.loc (c : Thread nD τ) ↦[arg13.view.set]{fullShare} f) ∗ ⌜f = arg13.view.writes (Elt F) G13 [⟨r2, (St i (arg3.view.read (Elt F) X3) (arg4.view.read (Elt F) X4) (arg9.view.read (Elt F) X9) (arg10.view.read (Elt F) X10) k).a⟩]⌝))
  step k acc := by
    iintro ⟨H3, H4, H9, H10, ⟨%f11, H11, %h11⟩, ⟨%f12, H12, %h12⟩, ⟨%f13, H13, %h13⟩⟩
    subst h11 h12 h13
    unfold k0_t1_body
    simp only [k0_part1_eq_skeleton]; unfold k0_part1_skel
    sl_exec
    sl_step
    isplitl [H3]; · iexact H3
    isplitl [H4]; · iexact H4
    isplitl [H9]; · iexact H9
    isplitl [H10]; · iexact H10
    isplitl [H11]
    · iexists _; isplitl [H11]; · iexact H11
      ipureintro
      rw [St_succ]
      exact writes1 _ _ _ _ _ (stepSt_m (readCov1 _ _))
    isplitl [H12]
    · iexists _; isplitl [H12]; · iexact H12
      ipureintro
      rw [St_succ]
      exact writes1 _ _ _ _ _ (stepSt_l (readCov1 _ _) (readCov1 _ _))
    iexists _; isplitl [H13]; · iexact H13
    ipureintro
    rw [St_succ]
    exact writes2 _ _ _ _ _ (stepSt_a (readCov1 _ _) (readCov2 _ _))

set_option warn.classDefReducibility false in
/-- THE REMAINDER LOOP: no trip, nothing to say. -/
@[sl_loop] def loopInv2 (𝒱 : Variants) (c : Dev nD) (bd : Option 𝒱.V) (E : Set ℕ) (i : grid0.Coords) (arg2 : Memref sig .tc .smem S112 .f32) (harg2 : arg2.IsWhole) (arg3 : Memref sig .tc .vmem S1x512x128 .fp8e4m3) (harg3 : arg3.IsWhole) (arg4 : Memref sig .tc .vmem S1x16384x128 .fp8e4m3) (harg4 : arg4.IsWhole) (arg5 : Memref sig .tc .vmem S1x128x16384 .fp8e4m3) (harg5 : arg5.IsWhole) (arg6 : Memref sig .tc .vmem S1x256x64 .f32) (harg6 : arg6.IsWhole) (arg7 : Memref sig .tc .vmem S1x32x512 .f32) (harg7 : arg7.IsWhole) (arg8 : Memref sig .tc .vmem S1x512x128 .bf16) (harg8 : arg8.IsWhole) (arg9 : Memref sig .tc .vmem S16384x128 .f32) (harg9 : arg9.IsWhole) (arg10 : Memref sig .tc .vmem S128x16384 .bf16) (harg10 : arg10.IsWhole) (arg11 : Memref sig .tc .vmem S1x512 .f32) (harg11 : arg11.IsWhole) (arg12 : Memref sig .tc .vmem S1x512 .f32) (harg12 : arg12.IsWhole) (arg13 : Memref sig .tc .vmem S128x512 .f32) (harg13 : arg13.IsWhole) (v554 : BitVec 32) (c1_i32_84 : BitVec 32) (c0_i32_85 : BitVec 32) (c0_i32_86 : BitVec 32) (v559 : BitVec 32) :
    Idealize.ShloMosaic.LoopInv (M := 𝕄G) Idealize.ShloMosaic.frame (wpE (defs₀ (F := F)) 𝒱 (c : Thread nD τ) bd) E
    (k0_t2_loop i).lb (k0_t2_loop i).ub (k0_t2_loop i).st (k0_t2_ok i) () (k0_t2_body (F := F) i arg2 harg2 arg3 harg3 arg4 harg4 arg5 harg5 arg6 harg6 arg7 harg7 arg8 harg8 arg9 harg9 arg10 harg10 arg11 harg11 arg12 harg12 arg13 harg13 v554 c1_i32_84 c0_i32_85 c0_i32_86 v559) where
  inv _ _ := iprop(emp)
  step k acc := absurd k.isLt (by have h : (k0_t2_loop i).trips = 0 := trips2 i; exact fun h' => absurd (h ▸ h' : k.val < 0) (Nat.not_lt_zero _))

end Cert.KernelIdeal.Body

end
-- ==== Proof.Body.lean ====
/-
  The kernel body's run: what one grid point leaves in the output block and in the two scratch arrays that
  carry the prepared keys' scales (`newK`) and the dequantised values (`newV`) from one query tile to the next.
-/
module

public import proofs.«01_k».proof.Proof.Loop
public import Idealize.ShloMosaic.Lib.Pointwise.Index
public import Idealize.ShloMosaic.Lib.Pipeline.FrameBody

@[expose] public section

set_option maxRecDepth 16384

noncomputable section

namespace Cert.KernelIdeal.Body

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem

variable {F : FTy → Type} [FloatOps F] [Named F]

/-- The resource algebra of the frame kit. -/
local notation "𝕄G" => MT nD τ sig Unit (Elt F) ℕ (UR sig nD τ) ℕ

/-- The rectangle of the prepared scales' `j`-th store: eight rows of this tile's group. -/
abbrev rK (i : grid0.Coords) (j : Fin 64) : Rect S16384x128 :=
  Rect.unit (s := S16384x128) (k0_off3 i (BitVec.ofNat 32 (8 * j.val))) S8x128.size (k0_off3_inb i j)
/-- The rectangle of the dequantised values' store: the columns of this tile's group. -/
abbrev rV (i : grid0.Coords) : Rect S128x16384 :=
  Rect.unit (s := S128x16384) (k0_off6 i) S128x512.size (k0_off6_inb i)

theorem sl64 : ∀ j : Fin 64, S8x64.Slices ![0, j.val] S8x1 := by decide

/-- The payload of the `j`-th store: column `j` of the group's key scales, along the lanes. -/
def payK (v12 : FVec F S8x64 .f32) (j : Fin 64) : Vec F S8x128 .f32 :=
  shapeCast S8x128 (broadcastTo S8x128 (shapeCast S8x1 (extractStridedSlice S8x1 ![0, j.val] v12 (sl64 j)) shapeCasts_S8x1_S8x1) broadcasts_S8x1_S8x128) shapeCasts_S8x128_S8x128

theorem payK_apply (v12 : FVec F S8x64 .f32) (j : Fin 64) (x : S8x128.Idx) :
    payK v12 j x = v12 (ix2 (n0 := 8) (n1 := 64) (x 0) j) := by
  unfold payK
  rw [shapeCast_self, shapeCast_self,
    broadcastTo_apply _ _ x (ix2 (n0 := 8) (n1 := 1) (x 0) 0) (by intro a; fin_cases a <;> rfl),
    extractStridedSlice_apply _ _ _ _ (ix2 (n0 := 8) (n1 := 64) (x 0) j) (by intro a; fin_cases a <;> simp)]

/-- The prepared scales after this tile: the tile's own group's rows are written, the others kept. -/
def newK (i : grid0.Coords) (v12 : FVec F S8x64 .f32) (K : Vec F S16384x128 .f32) : Vec F S16384x128 .f32 := fun y =>
  if h : 512 * (i 1).val ≤ (y 0).val ∧ (y 0).val < 512 * (i 1).val + 512 then
    v12 (ix2 (n0 := 8) (n1 := 64) ⟨((y 0).val - 512 * (i 1).val) % 8, Nat.mod_lt _ (by norm_num)⟩ ⟨((y 0).val - 512 * (i 1).val) / 8, by omega⟩)
  else K y

/-- The dequantised values after this tile. -/
def newV (i : grid0.Coords) (p : Vec F S128x512 .bf16) (W : Vec F S128x16384 .bf16) : Vec F S128x16384 .bf16 := fun y =>
  if h : 512 * (i 1).val ≤ (y 1).val ∧ (y 1).val < 512 * (i 1).val + 512 then
    p (ix2 (n0 := 128) (n1 := 512) (y 0) ⟨(y 1).val - 512 * (i 1).val, by omega⟩)
  else W y

/-- The first `n` of the stores, the last one first. -/
def piecesTo (i : grid0.Coords) (v12 : FVec F S8x64 .f32) : ℕ → List (View.Piece (Elt F) S16384x128 .f32)
  | 0 => []
  | n + 1 => (if h : n < 64 then [⟨rK i ⟨n, h⟩, payK v12 ⟨n, h⟩⟩] else []) ++ piecesTo i v12 n

theorem piecesTo_mem (i : grid0.Coords) (v12 : FVec F S8x64 .f32) (p : View.Piece (Elt F) S16384x128 .f32) (n : ℕ) :
    p ∈ piecesTo i v12 n ↔ ∃ j : Fin 64, j.val < n ∧ p = ⟨rK i j, payK v12 j⟩ := by
  induction n with
  | zero => simp [piecesTo]
  | succ n ih =>
    by_cases h : n < 64
    · simp only [piecesTo, dif_pos h, List.singleton_append, List.mem_cons, ih]
      constructor
      · rintro (rfl | ⟨j, hj, rfl⟩)
        · exact ⟨⟨n, h⟩, Nat.lt_succ_self n, rfl⟩
        · exact ⟨j, Nat.lt_succ_of_lt hj, rfl⟩
      · rintro ⟨j, hj, rfl⟩
        rcases Nat.lt_succ_iff_lt_or_eq.mp hj with hj | hj
        · exact .inr ⟨j, hj, rfl⟩
        · left; subst hj; rfl
    · simp only [piecesTo, dif_neg h, List.nil_append, ih]
      constructor
      · rintro ⟨j, hj, rfl⟩; exact ⟨j, Nat.lt_succ_of_lt hj, rfl⟩
      · rintro ⟨j, hj, rfl⟩; exact ⟨j, by have := j.isLt; omega, rfl⟩

/-- One more store, its payload given up to an equation. -/
theorem piecesTo_cons {i : grid0.Coords} {v12 : FVec F S8x64 .f32} {n : ℕ} (h : n < 64) {w : Vec F S8x128 .f32}
    {L : List (View.Piece (Elt F) S16384x128 .f32)} (hw : w = payK v12 ⟨n, h⟩) (hL : piecesTo i v12 n = L) :
    piecesTo i v12 (n + 1) = (⟨rK i ⟨n, h⟩, w⟩ :: L : List (View.Piece (Elt F) S16384x128 .f32)) := by
  subst hw hL; simp only [piecesTo, dif_pos h, List.singleton_append]

/-- The sixty-four stores leave `newK`. -/
theorem readK (v : View sig .tc .vmem S16384x128 .f32) (f : v.ty.Contents (Elt F)) (i : grid0.Coords) (v12 : FVec F S8x64 .f32) :
    v.read (Elt F) (v.writes (Elt F) f (piecesTo i v12 64)) = newK i v12 (v.read (Elt F) f) := by
  funext y
  have hy1 : (y 1).val < 128 := (y 1).isLt
  by_cases h : 512 * (i 1).val ≤ (y 0).val ∧ (y 0).val < 512 * (i 1).val + 512
  · refine View.read_writes_apply_of_pieces v f (newK i v12 (v.read (Elt F) f)) _ ?_ y ?_
    · intro p hp x
      obtain ⟨j, -, rfl⟩ := (piecesTo_mem _ _ _ _).mp hp
      have e0 : ((rK i j).emb x 0).val = 512 * (i 1).val + 8 * j.val + (x 0).val := by
        show (k0_off3 i (BitVec.ofNat 32 (8 * j.val))) 0 + 1 * (x 0).val = _
        rw [k0_off3_eq]; simp
      have hx : (x 0).val < 8 := (x 0).isLt
      have hj : j.val < 64 := j.isLt
      show payK v12 j x = _
      rw [payK_apply]
      unfold newK
      rw [dif_pos (by rw [e0]; omega)]
      congr 2
      · apply Fin.ext; show (x 0).val = (((rK i j).emb x 0).val - 512 * (i 1).val) % 8
        rw [e0]; omega
      · apply Fin.ext; show j.val = (((rK i j).emb x 0).val - 512 * (i 1).val) / 8
        rw [e0]; omega
    · have hj : ((y 0).val - 512 * (i 1).val) / 8 < 64 := by omega
      refine ⟨_, (piecesTo_mem _ _ _ _).mpr ⟨⟨((y 0).val - 512 * (i 1).val) / 8, hj⟩, hj, rfl⟩, ?_⟩
      rw [Rect.mem_set_unit]
      intro a
      rw [k0_off3_eq]
      fin_cases a
      · show 512 * (i 1).val + 8 * (((y 0).val - 512 * (i 1).val) / 8) ≤ (y 0).val ∧ (y 0).val < 512 * (i 1).val + 8 * (((y 0).val - 512 * (i 1).val) / 8) + 8
        omega
      · show 0 ≤ (y 1).val ∧ (y 1).val < 0 + 128
        omega
  · rw [View.read_writes_apply_of_forall_not_mem v f y _ ?_]
    · unfold newK; rw [dif_neg h]
    · intro p hp
      obtain ⟨j, -, rfl⟩ := (piecesTo_mem _ _ _ _).mp hp
      rw [Rect.mem_set_unit]
      intro hh
      have := hh 0
      rw [k0_off3_eq] at this
      have h2 : 512 * (i 1).val + 8 * j.val ≤ (y 0).val ∧ (y 0).val < 512 * (i 1).val + 8 * j.val + 8 := this
      have hj : j.val < 64 := j.isLt
      omega

/-- The values' store leaves `newV`. -/
theorem readV (v : View sig .tc .vmem S128x16384 .bf16) (f : v.ty.Contents (Elt F)) (i : grid0.Coords) (p : Vec F S128x512 .bf16) :
    v.read (Elt F) (v.writes (Elt F) f [⟨rV i, p⟩]) = newV i p (v.read (Elt F) f) := by
  funext y
  by_cases h : 512 * (i 1).val ≤ (y 1).val ∧ (y 1).val < 512 * (i 1).val + 512
  · refine View.read_writes_apply_of_pieces v f (newV i p (v.read (Elt F) f)) _ ?_ y ?_
    · intro q hq x
      obtain rfl := List.mem_singleton.mp hq
      have e0 : ((rV i).emb x 0).val = (x 0).val := by
        show (k0_off6 i) 0 + 1 * (x 0).val = _
        rw [k0_off6_eq]; simp
      have e1 : ((rV i).emb x 1).val = 512 * (i 1).val + (x 1).val := by
        show (k0_off6 i) 1 + 1 * (x 1).val = _
        rw [k0_off6_eq]; simp
      have hx : (x 1).val < 512 := (x 1).isLt
      show p x = _
      unfold newV
      rw [dif_pos (by rw [e1]; omega)]
      congr 1
      funext a
      match a with
      | ⟨0, _⟩ => exact Fin.ext e0.symm
      | ⟨1, _⟩ => exact Fin.ext (by show (x 1).val = ((rV i).emb x 1).val - _; rw [e1]; omega)
    · refine ⟨_, List.mem_singleton_self _, ?_⟩
      rw [Rect.mem_set_unit]
      intro a
      rw [k0_off6_eq]
      have hy0 : (y 0).val < 128 := (y 0).isLt
      fin_cases a
      · show 0 ≤ (y 0).val ∧ (y 0).val < 0 + 128
        omega
      · show 512 * (i 1).val ≤ (y 1).val ∧ (y 1).val < 512 * (i 1).val + 512
        omega
  · rw [View.read_writes_apply_of_forall_not_mem v f y _ ?_]
    · unfold newV; rw [dif_neg h]
    · intro q hq
      obtain rfl := List.mem_singleton.mp hq
      rw [Rect.mem_set_unit]
      intro hh
      have := hh 1
      rw [k0_off6_eq] at this
      exact h this

/-- The key scales of this tile's group, scaled by the head's query scale. -/
def kscOf (i : grid0.Coords) (x0 : Vec F S112 .f32) (x4 : Vec F S1x256x64 .f32) : FVec F S8x64 .f32 :=
  k0_pay16 (View.ld x4 (Rect.unit (s := S1x256x64) (k0_off1 i) S1x8x64.size (k0_off1_inb i)))
    (View.ld x0 (Rect.unit (s := S112) (k0_off2 i) S1.size (k0_off2_inb i)) (Shape.Idx.first (numel1_S1.symm ▸ Nat.one_pos)))
/-- The dequantised values of this tile's group. -/
def vbOf (i : grid0.Coords) (x3 : Vec F S1x128x16384 .fp8e4m3) (x5 : Vec F S1x32x512 .f32) : Vec F S128x512 .bf16 :=
  k0_pay91 (View.ld x5 (Rect.unit (s := S1x32x512) (k0_off4 i) S1x1x512.size (k0_off4_inb i)))
    (View.ld x3 (Rect.unit (s := S1x128x16384) (k0_off5 i) S1x128x512.size (k0_off5_inb i)))

abbrev v589 : BitVec 32 := Scalar.select (Scalar.cmpi .eq 64#32 0#32) 1#32 64#32
/-- Each key's position inside its block of sixty-four. -/
def v607 : IVec S8x512 32 := k0_pay107 k0_pay102 k0_pay103 v589 k0_pay104 k0_pay105 k0_pay106 (Scalar.cmpi .slt v589 0#32)
/-- The diagonal tile's masked statistics, at the tile's key block `kb`, query block `qb` and key scales `kk`. -/
def d628 (kb qb : Vec F S1x512x128 .fp8e4m3) (kk : Vec F S512x128 .f32) : FVec F S8x512 .f32 :=
  k0_pay111 k0_pay102 k0_pay103 v589 k0_pay104 k0_pay105 k0_pay106 (Scalar.cmpi .slt v589 0#32) kb qb kk
def d637 (kb qb : Vec F S1x512x128 .fp8e4m3) (kk : Vec F S512x128 .f32) : FVec F S63x8x512 .f32 :=
  k0_pay112 k0_pay102 k0_pay103 v589 k0_pay104 k0_pay105 k0_pay106 (Scalar.cmpi .slt v589 0#32) kb qb kk
def d638 (kb qb : Vec F S1x512x128 .fp8e4m3) (kk : Vec F S512x128 .f32) : FVec F S8x512 .f32 :=
  k0_pay113 k0_pay102 k0_pay103 v589 k0_pay104 k0_pay105 k0_pay106 (Scalar.cmpi .slt v589 0#32) kb qb kk
def d640 : IVec S8x512 1 :=
  k0_pay114 k0_pay102 k0_pay103 v589 k0_pay104 k0_pay105 k0_pay106 (Scalar.cmpi .slt v589 0#32)

/-- The state after the diagonal tile. -/
def lastSt (qb kb : Vec F S1x512x128 .fp8e4m3) (kk : Vec F S512x128 .f32) (vv : Vec F S128x512 .bf16) (s : State F) : State F where
  m := k0_pay2 (k0_pay117 k0_pay102 (k0_pay109 kb qb kk) (d628 kb qb kk) d640 k0_pay115 s.m)
  l := k0_pay1 (k0_pay121 k0_pay102 v607 (k0_pay109 kb qb kk) (d628 kb qb kk) (d638 kb qb kk) d640 k0_pay115 s.m)
    (k0_pay123 k0_pay102 (k0_pay109 kb qb kk) (d628 kb qb kk) d640 k0_pay115 s.m s.l)
  a := k0_pay122 k0_pay102 v607 (k0_pay109 kb qb kk) (d628 kb qb kk) (d637 kb qb kk) (d638 kb qb kk) d640 k0_pay115 s.m vv s.a

/-- The output block, from the query block, the head's keys and the two scratch arrays. -/
def outF (i : grid0.Coords) (x1 : Vec F S1x512x128 .fp8e4m3) (x2 : Vec F S1x16384x128 .fp8e4m3)
    (K : Vec F S16384x128 .f32) (W : Vec F S128x16384 .bf16) : Vec F S1x512x128 .bf16 :=
  let s := lastSt (View.ld x1 rq)
    (View.ld x2 (Rect.unit (s := S1x16384x128) (k0_off13 i) S1x512x128.size (k0_off13_inb i)))
    (View.ld K (Rect.unit (s := S16384x128) (k0_off14 i) S512x128.size (k0_off14_inb i)))
    (View.ld W (rV i)) (St i x1 x2 K W (k0_t1_loop i).trips)
  k0_pay3 s.a s.l

/-- The rectangle of the tile's own key scales. -/
abbrev rKD (i : grid0.Coords) : Rect S16384x128 := Rect.unit (s := S16384x128) (k0_off14 i) S512x128.size (k0_off14_inb i)

/-- The tile's own key scales read back are the stored ones, whatever the array held. -/
theorem readCovK (v : View sig .tc .vmem S16384x128 .f32) (i : grid0.Coords) (v12 : FVec F S8x64 .f32) (K : Vec F S16384x128 .f32) :
    v.readCov (piecesTo i v12 64) (rKD i).toLoadRect = View.ld (newK i v12 K) (rKD i) := by
  funext x
  show v.read (Elt F) (v.writes (Elt F) v.junk (piecesTo i v12 64)) ((rKD i).emb x) = newK i v12 K ((rKD i).emb x)
  rw [readK]
  have e0 : ((rKD i).emb x 0).val = 512 * (i 1).val + (x 0).val := by
    show (k0_off14 i) 0 + 1 * (x 0).val = _
    rw [k0_off14_eq]; simp
  have hx : (x 0).val < 512 := (x 0).isLt
  unfold newK
  rw [dif_pos (by rw [e0]; omega), dif_pos (by rw [e0]; omega)]

/-- The tile's own values likewise. -/
theorem readCovV (v : View sig .tc .vmem S128x16384 .bf16) (i : grid0.Coords) (p : Vec F S128x512 .bf16) (W : Vec F S128x16384 .bf16) :
    v.readCov [(⟨rV i, p⟩ : View.Piece (Elt F) S128x16384 .bf16)] (rV i).toLoadRect = View.ld (newV i p W) (rV i) := by
  funext x
  show v.read (Elt F) (v.writes (Elt F) v.junk [⟨rV i, p⟩]) ((rV i).emb x) = newV i p W ((rV i).emb x)
  rw [readV]
  have e0 : ((rV i).emb x 1).val = 512 * (i 1).val + (x 1).val := by
    show (k0_off6 i) 1 + 1 * (x 1).val = _
    rw [k0_off6_eq]; simp
  have hx : (x 1).val < 512 := (x 1).isLt
  unfold newV
  rw [dif_pos (by rw [e0]; omega), dif_pos (by rw [e0]; omega)]

/-- A whole load of what a last whole store left reads the payload. -/
theorem readCovC1 (v : View sig .tc .vmem S1x512 .f32) (w : Vec F S1x512 .f32) (L : List (View.Piece (Elt F) S1x512 .f32)) :
    v.readCov ((⟨r1, w⟩ : View.Piece (Elt F) S1x512 .f32) :: L) r1.toLoadRect = w := by
  rw [View.readCov_eq_canon_ld _ _ _ (fun y => ⟨_, List.mem_cons_self, View.mem_set_unit_zero hz2 inb_S1x512_S1x512_0_0 y⟩),
    View.canon_cons_unit_zero hz2, View.ld_unit_zero hz2]
theorem readCovC2 (v : View sig .tc .vmem S128x512 .f32) (w : Vec F S128x512 .f32) (L : List (View.Piece (Elt F) S128x512 .f32)) :
    v.readCov ((⟨r2, w⟩ : View.Piece (Elt F) S128x512 .f32) :: L) r2.toLoadRect = w := by
  rw [View.readCov_eq_canon_ld _ _ _ (fun y => ⟨_, List.mem_cons_self, View.mem_set_unit_zero hz2 inb_S128x512_S128x512_0_0 y⟩),
    View.canon_cons_unit_zero hz2, View.ld_unit_zero hz2]

theorem out_congr (i : grid0.Coords) (x1 : Vec F S1x512x128 .fp8e4m3) (x2 : Vec F S1x16384x128 .fp8e4m3)
    {K K' : Vec F S16384x128 .f32} {W W' : Vec F S128x16384 .bf16}
    {a a' : Vec F S128x512 .f32} {l l' m1 l0 : Vec F S1x512 .f32} {a0 : Vec F S128x512 .f32}
    {qb kb : Vec F S1x512x128 .fp8e4m3} {kk : Vec F S512x128 .f32} {vv : Vec F S128x512 .bf16}
    (ha : a = a') (hl : l = l')
    (ha' : a' = (lastSt qb kb kk vv ⟨m1, l0, a0⟩).a) (hl' : l' = (lastSt qb kb kk vv ⟨m1, l0, a0⟩).l)
    (hq : qb = View.ld x1 rq)
    (hk : kb = View.ld x2 (Rect.unit (s := S1x16384x128) (k0_off13 i) S1x512x128.size (k0_off13_inb i)))
    (hkk : kk = View.ld K' (rKD i))
    (hvv : vv = View.ld W' (rV i))
    (hm : m1 = (St i x1 x2 K W (k0_t1_loop i).trips).m)
    (hl0 : l0 = (St i x1 x2 K W (k0_t1_loop i).trips).l) (ha0 : a0 = (St i x1 x2 K W (k0_t1_loop i).trips).a)
    (hK : K = K') (hW : W = W') :
    k0_pay3 a l = outF i x1 x2 K' W' := by
  subst ha hl ha' hl' hq hk hkk hvv hm hl0 ha0 hK hW
  rfl

set_option maxHeartbeats 8000000 in
/-- One grid point: the inputs are kept, the output block is `outF`, the scratch arrays gain this tile's group. -/
theorem sound_kernel (c : Dev nD) (E : Set ℕ) (i : grid0.Coords) (arg2 : Memref sig .tc .smem S112 .f32) (harg2 : arg2.IsWhole) (arg3 : Memref sig .tc .vmem S1x512x128 .fp8e4m3) (harg3 : arg3.IsWhole) (arg4 : Memref sig .tc .vmem S1x16384x128 .fp8e4m3) (harg4 : arg4.IsWhole) (arg5 : Memref sig .tc .vmem S1x128x16384 .fp8e4m3) (harg5 : arg5.IsWhole) (arg6 : Memref sig .tc .vmem S1x256x64 .f32) (harg6 : arg6.IsWhole) (arg7 : Memref sig .tc .vmem S1x32x512 .f32) (harg7 : arg7.IsWhole) (arg8 : Memref sig .tc .vmem S1x512x128 .bf16) (harg8 : arg8.IsWhole) (arg9 : Memref sig .tc .vmem S16384x128 .f32) (harg9 : arg9.IsWhole) (arg10 : Memref sig .tc .vmem S128x16384 .bf16) (harg10 : arg10.IsWhole) (arg11 : Memref sig .tc .vmem S1x512 .f32) (harg11 : arg11.IsWhole) (arg12 : Memref sig .tc .vmem S1x512 .f32) (harg12 : arg12.IsWhole) (arg13 : Memref sig .tc .vmem S128x512 .f32) (harg13 : arg13.IsWhole)
    (x0 : Vec F S112 .f32) (x1 : Vec F S1x512x128 .fp8e4m3) (x2 : Vec F S1x16384x128 .fp8e4m3) (x3 : Vec F S1x128x16384 .fp8e4m3)
    (x4 : Vec F S1x256x64 .f32) (x5 : Vec F S1x32x512 .f32) (K : Vec F S16384x128 .f32) (W : Vec F S128x16384 .bf16) (Q : PUnit → sProp 𝕄G) :
    iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ (∃ d, owns (c : Thread nD τ) arg8 fullShare d) ∗ owns (c : Thread nD τ) arg9 fullShare K ∗ owns (c : Thread nD τ) arg10 fullShare W ∗ (∃ d, owns (c : Thread nD τ) arg11 fullShare d) ∗ (∃ d, owns (c : Thread nD τ) arg12 fullShare d) ∗ (∃ d, owns (c : Thread nD τ) arg13 fullShare d)
      ∗ (iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ owns (c : Thread nD τ) arg8 fullShare (outF i x1 x2 (newK i (kscOf i x0 x4) K) (newV i (vbOf i x3 x5) W)) ∗ owns (c : Thread nD τ) arg9 fullShare (newK i (kscOf i x0 x4) K) ∗ owns (c : Thread nD τ) arg10 fullShare (newV i (vbOf i x3 x5) W) ∗ (∃ d, owns (c : Thread nD τ) arg11 fullShare d) ∗ (∃ d, owns (c : Thread nD τ) arg12 fullShare d) ∗ (∃ d, owns (c : Thread nD τ) arg13 fullShare d)) -∗ Q ⟨⟩))
    ⊢ wp frame (wpE (defs₀ (F := F)) Variants.none c none) E (cc0_landmark_attention_safe i arg2 harg2 arg3 harg3 arg4 harg4 arg5 harg5 arg6 harg6 arg7 harg7 arg8 harg8 arg9 harg9 arg10 harg10 arg11 harg11 arg12 harg12 arg13 harg13) Q := by
  simp only [cc0_landmark_attention_safe_eq_skeleton]; unfold cc0_landmark_attention_safe_skel
  simp only [k0_part3_eq_skeleton, k0_part4_eq_skeleton, k0_part5_eq_skeleton, k0_part6_eq_skeleton, k0_part7_eq_skeleton, k0_part8_eq_skeleton, k0_part9_eq_skeleton, k0_part10_eq_skeleton, k0_part11_eq_skeleton, k0_part12_eq_skeleton, k0_part13_eq_skeleton, k0_part14_eq_skeleton, k0_part15_eq_skeleton, k0_part16_eq_skeleton, k0_part17_eq_skeleton, k0_part18_eq_skeleton]
  unfold owns
  iintro ⟨⟨%f2, %h2, H2⟩, ⟨%f3, %h3, H3⟩, ⟨%f4, %h4, H4⟩, ⟨%f5, %h5, H5⟩, ⟨%f6, %h6, H6⟩, ⟨%f7, %h7, H7⟩, ⟨%d8, %f8, -, H8⟩, ⟨%f9, %h9, H9⟩, ⟨%f10, %h10, H10⟩, ⟨%d11, %f11, -, H11⟩, ⟨%d12, %f12, -, H12⟩, ⟨%d13, %f13, -, H13⟩, Hk⟩
  subst h2 h3 h4 h5 h6 h7 h9 h10
  sl_exec
  sl_step
  iapply Hk
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  isplitl [H5]
  · iexists f5; isplitr; · ipureintro; rfl
    iexact H5
  isplitl [H6]
  · iexists f6; isplitr; · ipureintro; rfl
    iexact H6
  isplitl [H7]
  · iexists f7; isplitr; · ipureintro; rfl
    iexact H7
  isplitl [H8]
  · iexists _; isplitr
    swap; · iexact H8
    ipureintro
    refine (View.read_writes_eq_canon _ _ _ ?_).trans ((View.canon_unit_zero hz3 _ _).trans ?_)
    · exact fun y => ⟨_, List.mem_singleton_self _, View.mem_set_unit_zero hz3 inb_S1x512x128_S1x512x128_0_0_0 y⟩
    · refine out_congr i _ _ (K := ?K) (W := ?W) (a' := ?a') (l' := ?l') (m1 := ?m1) (l0 := ?l0) (a0 := ?a0) (qb := ?qb) (kb := ?kb) (kk := ?kk) (vv := ?vv) ?ha ?hl ?ha' ?hl' ?hq ?hk ?hkk ?hvv ?hm ?hl0 ?ha0 ?hK ?hW
      case ha => exact readCovC2 (F := F) _ _ _
      case hl => exact readCovC1 (F := F) _ _ _
      case ha' => exact rfl
      case hl' => exact rfl
      case hq => exact rfl
      case hk => exact rfl
      case hm => exact readCov1 (F := F) _ _
      case hl0 => exact readCov1 (F := F) _ _
      case ha0 => exact readCov2 (F := F) _ _
      case hkk =>
        refine (congrArg (fun L => arg9.view.readCov L (rKD i).toLoadRect) ?_).trans (readCovK arg9.view i (kscOf i (arg2.view.read (Elt F) f2) (arg6.view.read (Elt F) f6)) _)
        refine Eq.symm ?_
        iterate 64 refine piecesTo_cons (by decide) rfl ?_
        rfl
      case hvv => exact readCovV arg10.view i _ _
      case hK =>
        refine (congrArg (fun L => arg9.view.read (Elt F) (arg9.view.writes (Elt F) f9 L)) ?_).trans (readK arg9.view f9 i (kscOf i (arg2.view.read (Elt F) f2) (arg6.view.read (Elt F) f6)))
        refine Eq.symm ?_
        iterate 64 refine piecesTo_cons (by decide) rfl ?_
        rfl
      case hW => exact readV arg10.view f10 i _
  isplitl [H9]
  · iexists _; isplitr
    swap; · iexact H9
    ipureintro
    refine (congrArg (fun L => arg9.view.read (Elt F) (arg9.view.writes (Elt F) f9 L)) ?_).trans (readK arg9.view f9 i (kscOf i (arg2.view.read (Elt F) f2) (arg6.view.read (Elt F) f6)))
    refine Eq.symm ?_
    iterate 64 refine piecesTo_cons (by decide) rfl ?_
    rfl
  isplitl [H10]
  · iexists _; isplitr
    swap; · iexact H10
    ipureintro
    exact readV _ _ _ _
  isplitl [H11]
  · iexists _; iexists _; isplitr
    swap; · iexact H11
    ipureintro; rfl
  isplitl [H12]
  · iexists _; iexists _; isplitr
    swap; · iexact H12
    ipureintro; rfl
  iexists _; iexists _; isplitr
  swap; · iexact H13
  ipureintro; rfl

end Cert.KernelIdeal.Body

end
-- ==== Proof.Run.lean ====
/-
  The launch: what the two scratch arrays hold between grid points, the proof data of the pipeline, the body
  obligation at a generic point, the run, and the frame claim.
-/
module

public import proofs.«01_k».proof.Proof.Body
public import Idealize.ShloMosaic.Lib.Pipeline.FrameBody
public import Idealize.ShloMosaic.Lib.Claim

@[expose] public section

set_option maxRecDepth 16384

noncomputable section

namespace Cert.KernelIdeal.Body

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.ShloMosaic.Pipeline (Dat Cfg Window BodyObligation cellOf)
open Idealize.SL.BI.BIBase Idealize.SL.BI.Laws Idealize.SL.ProofMode Idealize.SL.Sem

variable {F : FTy → Type} [FloatOps F] [Named F]

/-- The resource algebra of the frame kit. -/
local notation "𝕄G" => MT nD τ sig Unit (Elt F) ℕ (UR sig nD τ) ℕ

/-! ## The output block reads only the groups prepared so far -/

theorem ldK_congr {K K' : Vec F S16384x128 .f32} {n g : ℕ} (h : ∀ y, (y 0).val < 512 * n → K y = K' y) (hg : g < n)
    (off : Fin 2 → ℕ) (inb : ∀ a, off a + S512x128.size a ≤ S16384x128.size a) (ho : off = ![512 * g, 0]) :
    View.ld K (Rect.unit (s := S16384x128) off S512x128.size inb) = View.ld K' (Rect.unit (s := S16384x128) off S512x128.size inb) := by
  subst ho
  funext x
  have hx : (x 0).val < 512 := (x 0).isLt
  refine h _ ?_
  show 512 * g + 1 * (x 0).val < _
  omega

theorem ldW_congr {W W' : Vec F S128x16384 .bf16} {n g : ℕ} (h : ∀ y, (y 1).val < 512 * n → W y = W' y) (hg : g < n)
    (off : Fin 2 → ℕ) (inb : ∀ a, off a + S128x512.size a ≤ S128x16384.size a) (ho : off = ![0, 512 * g]) :
    View.ld W (Rect.unit (s := S128x16384) off S128x512.size inb) = View.ld W' (Rect.unit (s := S128x16384) off S128x512.size inb) := by
  subst ho
  funext x
  have hx : (x 1).val < 512 := (x 1).isLt
  refine h _ ?_
  show 512 * g + 1 * (x 1).val < _
  omega

/-- The state after `n` past groups reads those groups only. -/
theorem St_congr (i : grid0.Coords) (x1 : Vec F S1x512x128 .fp8e4m3) (x2 : Vec F S1x16384x128 .fp8e4m3)
    {K K' : Vec F S16384x128 .f32} {W W' : Vec F S128x16384 .bf16} {b : ℕ}
    (hK : ∀ y, (y 0).val < 512 * b → K y = K' y) (hW : ∀ y, (y 1).val < 512 * b → W y = W' y) :
    ∀ n ≤ b, St i x1 x2 K W n = St i x1 x2 K' W' n
  | 0, _ => rfl
  | n + 1, hn => by
    unfold St
    by_cases h : n < (k0_t1_loop i).trips
    · rw [dif_pos h, dif_pos h, St_congr i x1 x2 hK hW n (by omega),
        ldK_congr hK (g := n) (by omega) _ _ (k0_off8_eq i ⟨n, h⟩), ldW_congr hW (g := n) (by omega) _ _ (k0_off9_eq i ⟨n, h⟩)]
    · rw [dif_neg h, dif_neg h, St_congr i x1 x2 hK hW n (by omega)]

/-- The output block reads the past groups and the tile's own. -/
theorem outF_congr (i : grid0.Coords) (x1 : Vec F S1x512x128 .fp8e4m3) (x2 : Vec F S1x16384x128 .fp8e4m3)
    {K K' : Vec F S16384x128 .f32} {W W' : Vec F S128x16384 .bf16}
    (hK : ∀ y, (y 0).val < 512 * ((i 1).val + 1) → K y = K' y) (hW : ∀ y, (y 1).val < 512 * ((i 1).val + 1) → W y = W' y) :
    outF i x1 x2 K W = outF i x1 x2 K' W' := by
  unfold outF
  rw [St_congr i x1 x2 hK hW _ (by rw [trips1]; omega),
    ldK_congr hK (g := (i 1).val) (by omega) _ _ (k0_off14_eq i), ldW_congr hW (g := (i 1).val) (by omega) _ _ (k0_off6_eq i)]

/-! ## The prepared arrays of a head -/

variable (m : (ℓ : Loc nD τ sig) → Buf (Elt F) ℓ) (ρ : Dev nD → PrngReg)

theorem N0 : cfg0.N = 3584 := by decide +kernel

/-- The grid point of a number. -/
def pt (n : ℕ) : Fin cfg0.N := ⟨n % 3584, by rw [N0]; exact Nat.mod_lt _ (by norm_num)⟩

theorem pt_self (t : Fin cfg0.N) : pt t.val = t := Fin.ext (Nat.mod_eq_of_lt (N0 ▸ t.isLt))

theorem coords0 (t : Fin cfg0.N) : (grid0.coords t 0).val = t.val / 32 := by
  have h : t.val < 3584 := N0 ▸ t.isLt
  rw [Pipeline.Grid.coords_val (G := grid0) t 0 (S := 32) (B := 112) (by decide +kernel) (by rfl)]
  omega
theorem coords1 (t : Fin cfg0.N) : (grid0.coords t 1).val = t.val % 32 := by
  rw [Pipeline.Grid.coords_val (G := grid0) t 1 (S := 1) (B := 32) (by decide +kernel) (by rfl)]
  omega

/-- Head `b`'s key scales, times its query scale, one row per key in the kernel's key order: row `512 g + 8 j + s` is
    the scale of the key at block `s`, place `j` of group `g`. -/
def prepK (c : Dev nD) (b : ℕ) : Vec F S16384x128 .f32 := fun y =>
  kscOf (grid0.coords (pt (32 * b + (y 0).val / 512))) (iblk m c 0 (pt (32 * b + (y 0).val / 512))) (iblk m c 4 (pt (32 * b + (y 0).val / 512)))
    (ix2 (n0 := 8) (n1 := 64) ⟨(y 0).val % 512 % 8, by omega⟩ ⟨(y 0).val % 512 / 8, by omega⟩)

/-- Head `b`'s dequantised values, one column per key in the same order. -/
def prepV (c : Dev nD) (b : ℕ) : Vec F S128x16384 .bf16 := fun y =>
  vbOf (grid0.coords (pt (32 * b + (y 1).val / 512))) (iblk m c 3 (pt (32 * b + (y 1).val / 512))) (iblk m c 5 (pt (32 * b + (y 1).val / 512)))
    (ix2 (n0 := 128) (n1 := 512) (y 0) ⟨(y 1).val % 512, by omega⟩)

theorem newK_prep (c : Dev nD) (t : Fin cfg0.N) {K : Vec F S16384x128 .f32}
    (hK : ∀ y, (y 0).val < 512 * (t.val % 32) → K y = prepK m c (t.val / 32) y) (y : S16384x128.Idx)
    (hy : (y 0).val < 512 * ((grid0.coords t 1).val + 1)) :
    newK (grid0.coords t) (kscOf (grid0.coords t) (iblk m c 0 t) (iblk m c 4 t)) K y = prepK m c (t.val / 32) y := by
  unfold newK
  rw [coords1] at hy
  by_cases h : 512 * (grid0.coords t 1).val ≤ (y 0).val ∧ (y 0).val < 512 * (grid0.coords t 1).val + 512
  · rw [dif_pos h]
    rw [coords1] at h
    have e : 32 * (t.val / 32) + (y 0).val / 512 = t.val := by omega
    unfold prepK
    rw [e, pt_self]
    congr 2
    · apply Fin.ext; show ((y 0).val - 512 * (grid0.coords t 1).val) % 8 = (y 0).val % 512 % 8; rw [coords1]; omega
    · apply Fin.ext; show ((y 0).val - 512 * (grid0.coords t 1).val) / 8 = (y 0).val % 512 / 8; rw [coords1]; omega
  · rw [dif_neg h]
    rw [coords1] at h
    exact hK y (by omega)

theorem newV_prep (c : Dev nD) (t : Fin cfg0.N) {W : Vec F S128x16384 .bf16}
    (hW : ∀ y, (y 1).val < 512 * (t.val % 32) → W y = prepV m c (t.val / 32) y) (y : S128x16384.Idx)
    (hy : (y 1).val < 512 * ((grid0.coords t 1).val + 1)) :
    newV (grid0.coords t) (vbOf (grid0.coords t) (iblk m c 3 t) (iblk m c 5 t)) W y = prepV m c (t.val / 32) y := by
  unfold newV
  rw [coords1] at hy
  by_cases h : 512 * (grid0.coords t 1).val ≤ (y 1).val ∧ (y 1).val < 512 * (grid0.coords t 1).val + 512
  · rw [dif_pos h]
    rw [coords1] at h
    have e : 32 * (t.val / 32) + (y 1).val / 512 = t.val := by omega
    unfold prepV
    rw [e, pt_self]
    congr 2
    apply Fin.ext; show (y 1).val - 512 * (grid0.coords t 1).val = (y 1).val % 512; rw [coords1]; omega
  · rw [dif_neg h]
    rw [coords1] at h
    exact hW y (by omega)

/-- The output block at a grid point. -/
def outAt (c : Dev nD) (t : Fin cfg0.N) : Vec F S1x512x128 .bf16 :=
  outF (grid0.coords t) (iblk m c 1 t) (iblk m c 2 t) (prepK m c (t.val / 32)) (prepV m c (t.val / 32))

theorem outAt_eq (c : Dev nD) (t : Fin cfg0.N) {K : Vec F S16384x128 .f32} {W : Vec F S128x16384 .bf16}
    (hK : ∀ y, (y 0).val < 512 * (t.val % 32) → K y = prepK m c (t.val / 32) y)
    (hW : ∀ y, (y 1).val < 512 * (t.val % 32) → W y = prepV m c (t.val / 32) y) :
    outF (grid0.coords t) (iblk m c 1 t) (iblk m c 2 t)
        (newK (grid0.coords t) (kscOf (grid0.coords t) (iblk m c 0 t) (iblk m c 4 t)) K)
        (newV (grid0.coords t) (vbOf (grid0.coords t) (iblk m c 3 t) (iblk m c 5 t)) W) = outAt m c t :=
  outF_congr _ _ _ (newK_prep m c t hK) (newV_prep m c t hW)

/-! ## The pipeline's proof data -/

/-- Before grid point `n` the two carried arrays hold the groups of the current head prepared so far. -/
def Inv (c : Dev nD) (n : ℕ) (K : Vec F S16384x128 .f32) (W : Vec F S128x16384 .bf16) : Prop :=
  (∀ y, (y 0).val < 512 * (n % 32) → K y = prepK m c (n / 32) y) ∧ (∀ y, (y 1).val < 512 * (n % 32) → W y = prepV m c (n / 32) y)

/-- The invariant between grid points. -/
def Phi (c : Dev nD) (n : ℕ) : sProp 𝕄G :=
  iprop((∃ K W, owns (c : Thread nD τ) (Memref.whole cc0_scratch0) fullShare K ∗ owns (c : Thread nD τ) (Memref.whole cc0_scratch1) fullShare W ∗ ⌜Inv m c n K W⌝)
    ∗ (∃ d, owns (c : Thread nD τ) (Memref.whole cc0_scratch2) fullShare d) ∗ (∃ d, owns (c : Thread nD τ) (Memref.whole cc0_scratch3) fullShare d)
    ∗ (∃ d, owns (c : Thread nD τ) (Memref.whole cc0_scratch4) fullShare d) ∗ (∃ r, prngReg c r))

/-- Before the first point nothing is said of the scratch; -/
theorem phi_in (c : Dev nD) : Pipeline.ΦA spec0 c ⊢ Phi m c 0 := by
  unfold Pipeline.ΦA Phi
  rw [scopedRest0_eq]
  simp only [owns_whole]
  iintro ⟨⟨⟨%f0, H0⟩, ⟨%f1, H1⟩, H2, H3, H4⟩, Hr⟩
  isplitl [H0 H1]
  · iexists f0; iexists f1
    isplitl [H0]; · iexact H0
    isplitl [H1]; · iexact H1
    ipureintro
    exact ⟨fun y hy => absurd hy (by omega), fun y hy => absurd hy (by omega)⟩
  isplitl [H2]; · iexact H2
  isplitl [H3]; · iexact H3
  isplitl [H4]; · iexact H4
  iexact Hr

/-- after the last one it is forgotten. -/
theorem phi_out (c : Dev nD) (n : ℕ) : Phi m c n ⊢ Pipeline.ΦA spec0 c := by
  unfold Pipeline.ΦA Phi
  rw [scopedRest0_eq]
  simp only [owns_whole]
  iintro ⟨⟨%K, %W, H0, H1, -⟩, H2, H3, H4, Hr⟩
  isplitr [Hr]
  · isplitl [H0]; · iexists K; iexact H0
    isplitl [H1]; · iexists W; iexact H1
    isplitl [H2]; · iexact H2
    isplitl [H3]; · iexact H3
    iexact H4
  iexact Hr

/-- The proof data of the one pipeline. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => iblk m c 4 t
    | ⟨5, _⟩ => iblk m c 5 t
    | ⟨6, _⟩ => outAt m c t
  Φ t := Phi m c t.val
  q _ := fullShare
  owed _ := 0

theorem A_eq (c : Dev nD) (w : Fin cfg0.W) : (dats m 0 c).A w = V m c (Pipeline.arrRef spec0 w) := by
  dsimp only [dats]
theorem after0_0 (c : Dev nD) (t : Fin cfg0.N) : (dats m 0 c).after 0 t = iblk m c 0 t := by dsimp only [dats]
theorem after0_1 (c : Dev nD) (t : Fin cfg0.N) : (dats m 0 c).after 1 t = iblk m c 1 t := by dsimp only [dats]
theorem after0_2 (c : Dev nD) (t : Fin cfg0.N) : (dats m 0 c).after 2 t = iblk m c 2 t := by dsimp only [dats]
theorem after0_3 (c : Dev nD) (t : Fin cfg0.N) : (dats m 0 c).after 3 t = iblk m c 3 t := by dsimp only [dats]
theorem after0_4 (c : Dev nD) (t : Fin cfg0.N) : (dats m 0 c).after 4 t = iblk m c 4 t := by dsimp only [dats]
theorem after0_5 (c : Dev nD) (t : Fin cfg0.N) : (dats m 0 c).after 5 t = iblk m c 5 t := by dsimp only [dats]
theorem after0_6 (c : Dev nD) (t : Fin cfg0.N) : (dats m 0 c).after 6 t = outAt m c t := by dsimp only [dats]
theorem before0_0 (c : Dev nD) (t : Fin cfg0.N) (d) : (dats m 0 c).before 0 t d = iblk m c 0 t :=
  before0_0_of m (dats m 0 c) (A_eq m c 0) (after0_0 m c) t d
theorem before0_1 (c : Dev nD) (t : Fin cfg0.N) (d) : (dats m 0 c).before 1 t d = iblk m c 1 t :=
  before0_1_of m (dats m 0 c) (A_eq m c 1) (after0_1 m c) t d
theorem before0_2 (c : Dev nD) (t : Fin cfg0.N) (d) : (dats m 0 c).before 2 t d = iblk m c 2 t :=
  before0_2_of m (dats m 0 c) (A_eq m c 2) (after0_2 m c) t d
theorem before0_3 (c : Dev nD) (t : Fin cfg0.N) (d) : (dats m 0 c).before 3 t d = iblk m c 3 t :=
  before0_3_of m (dats m 0 c) (A_eq m c 3) (after0_3 m c) t d
theorem before0_4 (c : Dev nD) (t : Fin cfg0.N) (d) : (dats m 0 c).before 4 t d = iblk m c 4 t :=
  before0_4_of m (dats m 0 c) (A_eq m c 4) (after0_4 m c) t d
theorem before0_5 (c : Dev nD) (t : Fin cfg0.N) (d) : (dats m 0 c).before 5 t d = iblk m c 5 t :=
  before0_5_of m (dats m 0 c) (A_eq m c 5) (after0_5 m c) t d

/-- What the body is called with at a grid point, -/
def bodyPre (c : Dev nD) (t : Fin cfg0.N) : sProp 𝕄G :=
  iprop((dats m 0 c).Φ t.castSucc ∗ (dats m 0 c).owesAt () t.castSucc
    ∗ (∃ d, owns (c : Thread nD τ) (st0_0 t) fullShare ((dats m 0 c).before 0 t d))
    ∗ (∃ d, owns (c : Thread nD τ) (st0_1 t) fullShare ((dats m 0 c).before 1 t d))
    ∗ (∃ d, owns (c : Thread nD τ) (st0_2 t) fullShare ((dats m 0 c).before 2 t d))
    ∗ (∃ d, owns (c : Thread nD τ) (st0_3 t) fullShare ((dats m 0 c).before 3 t d))
    ∗ (∃ d, owns (c : Thread nD τ) (st0_4 t) fullShare ((dats m 0 c).before 4 t d))
    ∗ (∃ d, owns (c : Thread nD τ) (st0_5 t) fullShare ((dats m 0 c).before 5 t d))
    ∗ (∃ d, owns (c : Thread nD τ) (st0_6 t) fullShare ((dats m 0 c).before 6 t d)))

/-- and what it returns. -/
def bodyPost (c : Dev nD) (t : Fin cfg0.N) : sProp 𝕄G :=
  iprop((dats m 0 c).Φ t.succ ∗ (dats m 0 c).owesAt () t.succ
    ∗ owns (c : Thread nD τ) (st0_0 t) fullShare ((dats m 0 c).after 0 t)
    ∗ owns (c : Thread nD τ) (st0_1 t) fullShare ((dats m 0 c).after 1 t)
    ∗ owns (c : Thread nD τ) (st0_2 t) fullShare ((dats m 0 c).after 2 t)
    ∗ owns (c : Thread nD τ) (st0_3 t) fullShare ((dats m 0 c).after 3 t)
    ∗ owns (c : Thread nD τ) (st0_4 t) fullShare ((dats m 0 c).after 4 t)
    ∗ owns (c : Thread nD τ) (st0_5 t) fullShare ((dats m 0 c).after 5 t)
    ∗ owns (c : Thread nD τ) (st0_6 t) fullShare ((dats m 0 c).after 6 t))

theorem Inv_succ (c : Dev nD) (t : Fin cfg0.N) {K : Vec F S16384x128 .f32} {W : Vec F S128x16384 .bf16} (h : Inv m c t.val K W) :
    Inv m c (t.val + 1) (newK (grid0.coords t) (kscOf (grid0.coords t) (iblk m c 0 t) (iblk m c 4 t)) K)
        (newV (grid0.coords t) (vbOf (grid0.coords t) (iblk m c 3 t) (iblk m c 5 t)) W) := by
  by_cases hz : (t.val + 1) % 32 = 0
  · exact ⟨fun y hy => absurd hy (by omega), fun y hy => absurd hy (by omega)⟩
  · have e : (t.val + 1) / 32 = t.val / 32 := by omega
    have e' : (t.val + 1) % 32 = t.val % 32 + 1 := by omega
    unfold Inv
    rw [e, e']
    exact ⟨fun y hy => newK_prep m c t h.1 y (by rw [coords1]; exact hy), fun y hy => newV_prep m c t h.2 y (by rw [coords1]; exact hy)⟩

set_option maxHeartbeats 1000000 in
/-- The body at any grid point. -/
theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before0_0, before0_1, before0_2, before0_3, before0_4, before0_5]
  rw [show (dats m 0 c).Φ t.succ = Phi m c (t.val + 1) from rfl, show (dats m 0 c).Φ t.castSucc = Phi m c t.val from rfl,
    show (dats m 0 c).owesAt () t.succ = (dats m 0 c).owesAt () t.castSucc from rfl,
    after0_0, after0_1, after0_2, after0_3, after0_4, after0_5, after0_6]
  unfold Phi
  iintro ⟨⟨⟨%K, %W, HK, HW, %hI⟩, Hm, Hl, Ha, Hr⟩, Ho, ⟨%d0, H0⟩, ⟨%d1, H1⟩, ⟨%d2, H2⟩, ⟨%d3, H3⟩, ⟨%d4, H4⟩, ⟨%d5, H5⟩, ⟨%d6, H6⟩⟩
  iapply (sound_kernel c Set.univ (grid0.coords t) _ _ _ _ _ _ _ _ _ _ _ _ _ _ _ _ _ _ _ _ _ _ _ _ (iblk m c 0 t) (iblk m c 1 t) (iblk m c 2 t) (iblk m c 3 t) (iblk m c 4 t) (iblk m c 5 t) K W _)
  isplitl [H0]; · iexact H0
  isplitl [H1]; · iexact H1
  isplitl [H2]; · iexact H2
  isplitl [H3]; · iexact H3
  isplitl [H4]; · iexact H4
  isplitl [H5]; · iexact H5
  isplitl [H6]; · iexists _; iexact H6
  isplitl [HK]; · iexact HK
  isplitl [HW]; · iexact HW
  isplitl [Hm]; · iexact Hm
  isplitl [Hl]; · iexact Hl
  isplitl [Ha]; · iexact Ha
  iintro ⟨H0, H1, H2, H3, H4, H5, H6, HK, HW, Hm, Hl, Ha⟩
  isplitl [HK HW Hm Hl Ha Hr]
  · isplitl [HK HW]
    · iexists _; iexists _
      isplitl [HK]; · iexact HK
      isplitl [HW]; · iexact HW
      ipureintro
      exact Inv_succ m c t hI
    isplitl [Hm]; · iexact Hm
    isplitl [Hl]; · iexact Hl
    isplitl [Ha]; · iexact Ha
    iexact Hr
  isplitl [Ho]; · iexact Ho
  isplitl [H0]; · iexact H0
  isplitl [H1]; · iexact H1
  isplitl [H2]; · iexact H2
  isplitl [H3]; · iexact H3
  isplitl [H4]; · iexact H4
  isplitl [H5]; · iexact H5
  rw [← outAt_eq m c t hI.1 hI.2]
  iexact H6

theorem defs₀_row (t : Fin cfg0.N) :
    defs₀ (F := F) .tc cfg0.body (cfg0.bodyArgs t (cfg0.slots t)) = bodyAt0 t := by
  unfold defs₀; rw [Defs.onTc_tc]

/-- The library's body obligation, at every point. -/
theorem body_obligation (c : Dev nD) : BodyObligation (dats (F := F) m 0 c) (defs₀ (F := F)) Variants.none () Set.univ := fun t => by
  rw [bigSep_W0, bigSep_W0, defs₀_row]
  exact triple_restated (sound_body m c t) rfl .rfl fun _ => .rfl

set_option backward.isDefEq.respectTransparency.types false in
set_option maxHeartbeats 800000 in
/-- The launch: every execution terminates, the arrays at what the pipeline computes from the proof data, the other
    buffers as the region found them, every semaphore counter at zero. -/
theorem run_main_quiescent : θ_run defs (onTc (τ := τ) (main (F := F))) (s₀ m ρ)
    (fun r => (Pipeline.FramePost cfgs (dats m) 0 (V m)) r ∧ r.2.sem = fun _ => 0) :=
  Pipeline.θ_run_frame_track cfgs (dats m) (0 : Fin 1) launch0 defs₀ Variants.none m ρ main
    (hbody := fun c => (body_obligation m c).loose) (hshare := fun c => (dats m 0 c).share_full fun _ => rfl)
    (howed := fun _ _ => rfl) (V := V m) (hmain := hmain m Variants.none) (hA := A_eq m)
    (hin := fun c => phi_in m c) (hout := fun c => phi_out m c _)
    (Q' := fun r => (Pipeline.FramePost cfgs (dats m) 0 (V m)) r ∧ r.2.sem = fun _ => 0) (hQ' := fun _ h => h)

theorem run_main : θ_run defs (onTc (τ := τ) (main (F := F))) (s₀ m ρ) (Pipeline.FramePost cfgs (dats m) 0 (V m)) :=
  (θ_run defs _ _).mono (fun _ h => h.1) (run_main_quiescent m ρ)

/-- The frame claim, at any values: the argument arrays end unchanged and every semaphore counter at zero. -/
theorem frame : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5))
      ∧ r.2.sem = fun _ => 0) :=
  θ_run_and (frame_of m ρ (dats m) (A_eq m) (run_main m ρ)) ((θ_run defs _ _).mono (fun _ h => h.2) (run_main_quiescent m ρ))

end Cert.KernelIdeal.Body

end
-- ==== Proof.Bits.Loop.lean ====
/-
  The kernel body's loop over the past key groups, by its values: the state it carries in its three scratch
  buffers (running maximum, running sum, unnormalised output) after `n` groups is `St … n`, one step a pure
  function of the loaded blocks.  The loop's invariant (`loopInv1`) says each scratch holds that state; the
  remainder loop makes no trip (`loopInv2`).
-/
module

public import proofs.«01_k».proof.Proof.Gen.Kernel.Skeleton
public import proofs.«01_k».proof.Proof.Gen.Kernel.Frame
public import Idealize.ShloMosaic.Lib.Exec
public import Mathlib.Tactic.NormNum
public import Mathlib.Tactic.FinCases
public import Idealize.ShloMosaic.Lib.Tactic
public import Idealize.ShloMosaic.Lib.Pipeline.Kit
public import Idealize.ShloMosaic.Lib.Pipeline.Value

@[expose] public section

set_option maxRecDepth 16384

noncomputable section

namespace Cert.Kernel.Body

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem

variable {F : FTy → Type} [FloatOps F]

/-- The resource algebra of the frame kit. -/
local notation "𝕄G" => MT nD τ sig Unit (Elt F) ℕ (UR sig nD τ) ℕ

/-- The main loop makes one trip per past group: as many as the query tile's number. -/
theorem trips1 (i : grid0.Coords) : (k0_t1_loop i).trips = (i 1).val := by
  have h : ∀ j : Fin 32, Scf.Loop.trips (⟨0#32, Scalar.addi 0#32 (Scalar.muli (Scalar.divsi (Scalar.subi (Scalar.divsi (Scalar.addi (Scalar.subi (BitVec.ofNat 32 j.val) 0#32) (Scalar.subi 1#32 1#32)) 1#32) 0#32) 1#32) 1#32), 1#32⟩ : Scf.Loop 32) = j.val := by decide +kernel
  exact h (i 1)

/-- The remainder loop makes none. -/
theorem trips2 (i : grid0.Coords) : (k0_t2_loop i).trips = 0 := by
  have h : ∀ j : Fin 32, Scf.Loop.trips (⟨Scalar.addi 0#32 (Scalar.muli (Scalar.divsi (Scalar.subi (Scalar.divsi (Scalar.addi (Scalar.subi (BitVec.ofNat 32 j.val) 0#32) (Scalar.subi 1#32 1#32)) 1#32) 0#32) 1#32) 1#32), Scalar.addi 0#32 (Scalar.subi (Scalar.divsi (Scalar.addi (Scalar.subi (BitVec.ofNat 32 j.val) 0#32) (Scalar.subi 1#32 1#32)) 1#32) 0#32), 1#32⟩ : Scf.Loop 32) = 0 := by decide +kernel
  exact h (i 1)

/-- What the loop carries: the running maximum, the running sum and the unnormalised output. -/
structure State (F : FTy → Type) where
  m : Vec F S1x512 .f32
  l : Vec F S1x512 .f32
  a : Vec F S128x512 .f32

abbrev r1 : Rect S1x512 := Rect.unit (s := S1x512) ![0, 0] S1x512.size inb_S1x512_S1x512_0_0
abbrev r2 : Rect S128x512 := Rect.unit (s := S128x512) ![0, 0] S128x512.size inb_S128x512_S128x512_0_0
abbrev rq : Rect S1x512x128 := Rect.unit (s := S1x512x128) ![0, 0, 0] S1x512x128.size inb_S1x512x128_S1x512x128_0_0_0

/-- One past group: the state after the group whose key block is `kb`, key scales `kk`, values `vv`, for the
    query block `qb`. -/
def stepSt (qb : Vec F S1x512x128 .fp8e4m3) (kb : Vec F S1x512x128 .fp8e4m3) (kk : Vec F S512x128 .f32)
    (vv : Vec F S128x512 .bf16) (s : State F) : State F where
  m := k0_pay97 (k0_pay6 kb qb kk s.m)
  l := k0_pay96 (k0_pay7 kb qb kk s.m) (k0_pay8 kb qb kk s.m) s.l
  a := k0_pay95 (k0_pay7 kb qb kk s.m) (k0_pay9 kb qb kk s.m) vv (constant S128x512 .f32 0x00000000#32) s.a

theorem stepSt_m {qb : Vec F S1x512x128 .fp8e4m3} {kb : Vec F S1x512x128 .fp8e4m3} {kk : Vec F S512x128 .f32}
    {vv : Vec F S128x512 .bf16} {s : State F} {w : Vec F S1x512 .f32} (h : w = s.m) :
    k0_pay97 (k0_pay6 kb qb kk w) = (stepSt qb kb kk vv s).m := by subst h; rfl
theorem stepSt_l {qb : Vec F S1x512x128 .fp8e4m3} {kb : Vec F S1x512x128 .fp8e4m3} {kk : Vec F S512x128 .f32}
    {vv : Vec F S128x512 .bf16} {s : State F} {w u : Vec F S1x512 .f32} (h : w = s.m) (h' : u = s.l) :
    k0_pay96 (k0_pay7 kb qb kk w) (k0_pay8 kb qb kk w) u = (stepSt qb kb kk vv s).l := by subst h h'; rfl
theorem stepSt_a {qb : Vec F S1x512x128 .fp8e4m3} {kb : Vec F S1x512x128 .fp8e4m3} {kk : Vec F S512x128 .f32}
    {vv : Vec F S128x512 .bf16} {s : State F} {w : Vec F S1x512 .f32} {u : Vec F S128x512 .f32} (h : w = s.m) (h' : u = s.a) :
    k0_pay95 (k0_pay7 kb qb kk w) (k0_pay9 kb qb kk w) vv (constant S128x512 .f32 0x00000000#32) u
      = (stepSt qb kb kk vv s).a := by subst h h'; rfl

/-- The state after `n` past groups. -/
def St (i : grid0.Coords) (x1 : Vec F S1x512x128 .fp8e4m3) (x2 : Vec F S1x16384x128 .fp8e4m3)
    (K : Vec F S16384x128 .f32) (W : Vec F S128x16384 .bf16) : ℕ → State F
  | 0 => ⟨k0_pay92, k0_pay93, k0_pay94⟩
  | n + 1 => if h : n < (k0_t1_loop i).trips then
      stepSt (View.ld x1 rq)
        (View.ld x2 (Rect.unit (s := S1x16384x128) (k0_off7 i ⟨n, h⟩) S1x512x128.size (k0_off7_inb i ⟨n, h⟩)))
        (View.ld K (Rect.unit (s := S16384x128) (k0_off8 i ⟨n, h⟩) S512x128.size (k0_off8_inb i ⟨n, h⟩)))
        (View.ld W (Rect.unit (s := S128x16384) (k0_off9 i ⟨n, h⟩) S128x512.size (k0_off9_inb i ⟨n, h⟩)))
        (St i x1 x2 K W n)
      else St i x1 x2 K W n

theorem St_succ (i : grid0.Coords) (x1 : Vec F S1x512x128 .fp8e4m3) (x2 : Vec F S1x16384x128 .fp8e4m3)
    (K : Vec F S16384x128 .f32) (W : Vec F S128x16384 .bf16) (n : Fin (k0_t1_loop i).trips) :
    St i x1 x2 K W (n.val + 1) = stepSt (View.ld x1 rq)
        (View.ld x2 (Rect.unit (s := S1x16384x128) (k0_off7 i n) S1x512x128.size (k0_off7_inb i n)))
        (View.ld K (Rect.unit (s := S16384x128) (k0_off8 i n) S512x128.size (k0_off8_inb i n)))
        (View.ld W (Rect.unit (s := S128x16384) (k0_off9 i n) S128x512.size (k0_off9_inb i n)))
        (St i x1 x2 K W n.val) := dif_pos n.isLt

theorem hz2 : (![0, 0] : Fin 2 → Nat) = fun _ => 0 := funext fun a => by fin_cases a <;> rfl
theorem hz3 : (![0, 0, 0] : Fin 3 → Nat) = fun _ => 0 := funext fun a => by fin_cases a <;> rfl

/-- A whole load of what one whole store left reads the payload. -/
theorem readCov1 (v : View sig .tc .vmem S1x512 .f32) (w : Vec F S1x512 .f32) :
    v.readCov [(⟨r1, w⟩ : View.Piece (Elt F) S1x512 .f32)] r1.toLoadRect = w := View.readCov_unit_zero v hz2 _ w
theorem readCov2 (v : View sig .tc .vmem S128x512 .f32) (w : Vec F S128x512 .f32) :
    v.readCov [(⟨r2, w⟩ : View.Piece (Elt F) S128x512 .f32)] r2.toLoadRect = w := View.readCov_unit_zero v hz2 _ w

/-- A whole store over a whole store leaves the later. -/
theorem writes1 (v : View sig .tc .vmem S1x512 .f32) (f : v.ty.Contents (Elt F)) (w w' w'' : Vec F S1x512 .f32) (h : w = w'') :
    v.writes (Elt F) f [⟨r1, w⟩, ⟨r1, w'⟩] = v.writes (Elt F) f [⟨r1, w''⟩] :=
  (View.writes_cons_drop _ _ _ _ _ _ (fun y hy => hy)).trans (by rw [h])
theorem writes2 (v : View sig .tc .vmem S128x512 .f32) (f : v.ty.Contents (Elt F)) (w w' w'' : Vec F S128x512 .f32) (h : w = w'') :
    v.writes (Elt F) f [⟨r2, w⟩, ⟨r2, w'⟩] = v.writes (Elt F) f [⟨r2, w''⟩] :=
  (View.writes_cons_drop _ _ _ _ _ _ (fun y hy => hy)).trans (by rw [h])

set_option maxHeartbeats 1000000 in
set_option warn.classDefReducibility false in
/-- THE MAIN LOOP's invariant: the four buffers it reads at their contents, the three it carries its state in
    holding `St … k`. -/
@[sl_loop] def loopInv1 (𝒱 : Variants) (c : Dev nD) (bd : Option 𝒱.V) (E : Set ℕ) (i : grid0.Coords) (arg2 : Memref sig .tc .smem S112 .f32) (harg2 : arg2.IsWhole) (arg3 : Memref sig .tc .vmem S1x512x128 .fp8e4m3) (harg3 : arg3.IsWhole) (arg4 : Memref sig .tc .vmem S1x16384x128 .fp8e4m3) (harg4 : arg4.IsWhole) (arg5 : Memref sig .tc .vmem S1x128x16384 .fp8e4m3) (harg5 : arg5.IsWhole) (arg6 : Memref sig .tc .vmem S1x256x64 .f32) (harg6 : arg6.IsWhole) (arg7 : Memref sig .tc .vmem S1x32x512 .f32) (harg7 : arg7.IsWhole) (arg8 : Memref sig .tc .vmem S1x512x128 .bf16) (harg8 : arg8.IsWhole) (arg9 : Memref sig .tc .vmem S16384x128 .f32) (harg9 : arg9.IsWhole) (arg10 : Memref sig .tc .vmem S128x16384 .bf16) (harg10 : arg10.IsWhole) (arg11 : Memref sig .tc .vmem S1x512 .f32) (harg11 : arg11.IsWhole) (arg12 : Memref sig .tc .vmem S1x512 .f32) (harg12 : arg12.IsWhole) (arg13 : Memref sig .tc .vmem S128x512 .f32) (harg13 : arg13.IsWhole) (v554 : BitVec 32) (c1_i32_84 : BitVec 32) (c0_i32_85 : BitVec 32) (c0_i32_86 : BitVec 32)
    (X3 : BufTy.Contents (Elt F) arg3.view.ty) (X4 : BufTy.Contents (Elt F) arg4.view.ty) (X9 : BufTy.Contents (Elt F) arg9.view.ty) (X10 : BufTy.Contents (Elt F) arg10.view.ty)
    (G11 : BufTy.Contents (Elt F) arg11.view.ty) (G12 : BufTy.Contents (Elt F) arg12.view.ty) (G13 : BufTy.Contents (Elt F) arg13.view.ty) :
    Idealize.ShloMosaic.LoopInv (M := 𝕄G) Idealize.ShloMosaic.frame (wpE (defs₀ (F := F)) 𝒱 (c : Thread nD τ) bd) E
    (k0_t1_loop i).lb (k0_t1_loop i).ub (k0_t1_loop i).st (k0_t1_ok i) () (k0_t1_body (F := F) i arg2 harg2 arg3 harg3 arg4 harg4 arg5 harg5 arg6 harg6 arg7 harg7 arg8 harg8 arg9 harg9 arg10 harg10 arg11 harg11 arg12 harg12 arg13 harg13 v554 c1_i32_84 c0_i32_85 c0_i32_86) where
  inv k _ := iprop((arg3.view.loc (c : Thread nD τ) ↦[arg3.view.set]{fullShare} X3) ∗ (arg4.view.loc (c : Thread nD τ) ↦[arg4.view.set]{fullShare} X4) ∗ (arg9.view.loc (c : Thread nD τ) ↦[arg9.view.set]{fullShare} X9) ∗ (arg10.view.loc (c : Thread nD τ) ↦[arg10.view.set]{fullShare} X10)
    ∗ (∃ f, (arg11.view.loc (c : Thread nD τ) ↦[arg11.view.set]{fullShare} f) ∗ ⌜f = arg11.view.writes (Elt F) G11 [⟨r1, (St i (arg3.view.read (Elt F) X3) (arg4.view.read (Elt F) X4) (arg9.view.read (Elt F) X9) (arg10.view.read (Elt F) X10) k).m⟩]⌝)
    ∗ (∃ f, (arg12.view.loc (c : Thread nD τ) ↦[arg12.view.set]{fullShare} f) ∗ ⌜f = arg12.view.writes (Elt F) G12 [⟨r1, (St i (arg3.view.read (Elt F) X3) (arg4.view.read (Elt F) X4) (arg9.view.read (Elt F) X9) (arg10.view.read (Elt F) X10) k).l⟩]⌝)
    ∗ (∃ f, (arg13.view.loc (c : Thread nD τ) ↦[arg13.view.set]{fullShare} f) ∗ ⌜f = arg13.view.writes (Elt F) G13 [⟨r2, (St i (arg3.view.read (Elt F) X3) (arg4.view.read (Elt F) X4) (arg9.view.read (Elt F) X9) (arg10.view.read (Elt F) X10) k).a⟩]⌝))
  step k acc := by
    iintro ⟨H3, H4, H9, H10, ⟨%f11, H11, %h11⟩, ⟨%f12, H12, %h12⟩, ⟨%f13, H13, %h13⟩⟩
    subst h11 h12 h13
    unfold k0_t1_body
    simp only [k0_part1_eq_skeleton]; unfold k0_part1_skel
    sl_exec
    sl_step
    isplitl [H3]; · iexact H3
    isplitl [H4]; · iexact H4
    isplitl [H9]; · iexact H9
    isplitl [H10]; · iexact H10
    isplitl [H11]
    · iexists _; isplitl [H11]; · iexact H11
      ipureintro
      rw [St_succ]
      exact writes1 _ _ _ _ _ (stepSt_m (readCov1 _ _))
    isplitl [H12]
    · iexists _; isplitl [H12]; · iexact H12
      ipureintro
      rw [St_succ]
      exact writes1 _ _ _ _ _ (stepSt_l (readCov1 _ _) (readCov1 _ _))
    iexists _; isplitl [H13]; · iexact H13
    ipureintro
    rw [St_succ]
    exact writes2 _ _ _ _ _ (stepSt_a (readCov1 _ _) (readCov2 _ _))

set_option warn.classDefReducibility false in
/-- THE REMAINDER LOOP: no trip, nothing to say. -/
@[sl_loop] def loopInv2 (𝒱 : Variants) (c : Dev nD) (bd : Option 𝒱.V) (E : Set ℕ) (i : grid0.Coords) (arg2 : Memref sig .tc .smem S112 .f32) (harg2 : arg2.IsWhole) (arg3 : Memref sig .tc .vmem S1x512x128 .fp8e4m3) (harg3 : arg3.IsWhole) (arg4 : Memref sig .tc .vmem S1x16384x128 .fp8e4m3) (harg4 : arg4.IsWhole) (arg5 : Memref sig .tc .vmem S1x128x16384 .fp8e4m3) (harg5 : arg5.IsWhole) (arg6 : Memref sig .tc .vmem S1x256x64 .f32) (harg6 : arg6.IsWhole) (arg7 : Memref sig .tc .vmem S1x32x512 .f32) (harg7 : arg7.IsWhole) (arg8 : Memref sig .tc .vmem S1x512x128 .bf16) (harg8 : arg8.IsWhole) (arg9 : Memref sig .tc .vmem S16384x128 .f32) (harg9 : arg9.IsWhole) (arg10 : Memref sig .tc .vmem S128x16384 .bf16) (harg10 : arg10.IsWhole) (arg11 : Memref sig .tc .vmem S1x512 .f32) (harg11 : arg11.IsWhole) (arg12 : Memref sig .tc .vmem S1x512 .f32) (harg12 : arg12.IsWhole) (arg13 : Memref sig .tc .vmem S128x512 .f32) (harg13 : arg13.IsWhole) (v554 : BitVec 32) (c1_i32_84 : BitVec 32) (c0_i32_85 : BitVec 32) (c0_i32_86 : BitVec 32) (v559 : BitVec 32) :
    Idealize.ShloMosaic.LoopInv (M := 𝕄G) Idealize.ShloMosaic.frame (wpE (defs₀ (F := F)) 𝒱 (c : Thread nD τ) bd) E
    (k0_t2_loop i).lb (k0_t2_loop i).ub (k0_t2_loop i).st (k0_t2_ok i) () (k0_t2_body (F := F) i arg2 harg2 arg3 harg3 arg4 harg4 arg5 harg5 arg6 harg6 arg7 harg7 arg8 harg8 arg9 harg9 arg10 harg10 arg11 harg11 arg12 harg12 arg13 harg13 v554 c1_i32_84 c0_i32_85 c0_i32_86 v559) where
  inv _ _ := iprop(emp)
  step k acc := absurd k.isLt (by have h : (k0_t2_loop i).trips = 0 := trips2 i; exact fun h' => absurd (h ▸ h' : k.val < 0) (Nat.not_lt_zero _))

end Cert.Kernel.Body

end
-- ==== Proof.Bits.Body.lean ====
/-
  The kernel body's run: what one grid point leaves in the output block and in the two scratch arrays that
  carry the prepared keys' scales (`newK`) and the dequantised values (`newV`) from one query tile to the next.
-/
module

public import proofs.«01_k».proof.Proof.Bits.Loop
public import Idealize.ShloMosaic.Lib.Pointwise.Index
public import Idealize.ShloMosaic.Lib.Pipeline.FrameBody

@[expose] public section

set_option maxRecDepth 16384

noncomputable section

namespace Cert.Kernel.Body

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem

variable {F : FTy → Type} [FloatOps F]

/-- The resource algebra of the frame kit. -/
local notation "𝕄G" => MT nD τ sig Unit (Elt F) ℕ (UR sig nD τ) ℕ

/-- The rectangle of the prepared scales' `j`-th store: eight rows of this tile's group. -/
abbrev rK (i : grid0.Coords) (j : Fin 64) : Rect S16384x128 :=
  Rect.unit (s := S16384x128) (k0_off3 i (BitVec.ofNat 32 (8 * j.val))) S8x128.size (k0_off3_inb i j)
/-- The rectangle of the dequantised values' store: the columns of this tile's group. -/
abbrev rV (i : grid0.Coords) : Rect S128x16384 :=
  Rect.unit (s := S128x16384) (k0_off6 i) S128x512.size (k0_off6_inb i)

theorem sl64 : ∀ j : Fin 64, S8x64.Slices ![0, j.val] S8x1 := by decide

/-- The payload of the `j`-th store: column `j` of the group's key scales, along the lanes. -/
def payK (v12 : FVec F S8x64 .f32) (j : Fin 64) : Vec F S8x128 .f32 :=
  shapeCast S8x128 (broadcastTo S8x128 (shapeCast S8x1 (extractStridedSlice S8x1 ![0, j.val] v12 (sl64 j)) shapeCasts_S8x1_S8x1) broadcasts_S8x1_S8x128) shapeCasts_S8x128_S8x128

theorem payK_apply (v12 : FVec F S8x64 .f32) (j : Fin 64) (x : S8x128.Idx) :
    payK v12 j x = v12 (ix2 (n0 := 8) (n1 := 64) (x 0) j) := by
  unfold payK
  rw [shapeCast_self, shapeCast_self,
    broadcastTo_apply _ _ x (ix2 (n0 := 8) (n1 := 1) (x 0) 0) (by intro a; fin_cases a <;> rfl),
    extractStridedSlice_apply _ _ _ _ (ix2 (n0 := 8) (n1 := 64) (x 0) j) (by intro a; fin_cases a <;> simp)]

/-- The prepared scales after this tile: the tile's own group's rows are written, the others kept. -/
def newK (i : grid0.Coords) (v12 : FVec F S8x64 .f32) (K : Vec F S16384x128 .f32) : Vec F S16384x128 .f32 := fun y =>
  if h : 512 * (i 1).val ≤ (y 0).val ∧ (y 0).val < 512 * (i 1).val + 512 then
    v12 (ix2 (n0 := 8) (n1 := 64) ⟨((y 0).val - 512 * (i 1).val) % 8, Nat.mod_lt _ (by norm_num)⟩ ⟨((y 0).val - 512 * (i 1).val) / 8, by omega⟩)
  else K y

/-- The dequantised values after this tile. -/
def newV (i : grid0.Coords) (p : Vec F S128x512 .bf16) (W : Vec F S128x16384 .bf16) : Vec F S128x16384 .bf16 := fun y =>
  if h : 512 * (i 1).val ≤ (y 1).val ∧ (y 1).val < 512 * (i 1).val + 512 then
    p (ix2 (n0 := 128) (n1 := 512) (y 0) ⟨(y 1).val - 512 * (i 1).val, by omega⟩)
  else W y

/-- The first `n` of the stores, the last one first. -/
def piecesTo (i : grid0.Coords) (v12 : FVec F S8x64 .f32) : ℕ → List (View.Piece (Elt F) S16384x128 .f32)
  | 0 => []
  | n + 1 => (if h : n < 64 then [⟨rK i ⟨n, h⟩, payK v12 ⟨n, h⟩⟩] else []) ++ piecesTo i v12 n

theorem piecesTo_mem (i : grid0.Coords) (v12 : FVec F S8x64 .f32) (p : View.Piece (Elt F) S16384x128 .f32) (n : ℕ) :
    p ∈ piecesTo i v12 n ↔ ∃ j : Fin 64, j.val < n ∧ p = ⟨rK i j, payK v12 j⟩ := by
  induction n with
  | zero => simp [piecesTo]
  | succ n ih =>
    by_cases h : n < 64
    · simp only [piecesTo, dif_pos h, List.singleton_append, List.mem_cons, ih]
      constructor
      · rintro (rfl | ⟨j, hj, rfl⟩)
        · exact ⟨⟨n, h⟩, Nat.lt_succ_self n, rfl⟩
        · exact ⟨j, Nat.lt_succ_of_lt hj, rfl⟩
      · rintro ⟨j, hj, rfl⟩
        rcases Nat.lt_succ_iff_lt_or_eq.mp hj with hj | hj
        · exact .inr ⟨j, hj, rfl⟩
        · left; subst hj; rfl
    · simp only [piecesTo, dif_neg h, List.nil_append, ih]
      constructor
      · rintro ⟨j, hj, rfl⟩; exact ⟨j, Nat.lt_succ_of_lt hj, rfl⟩
      · rintro ⟨j, hj, rfl⟩; exact ⟨j, by have := j.isLt; omega, rfl⟩

/-- One more store, its payload given up to an equation. -/
theorem piecesTo_cons {i : grid0.Coords} {v12 : FVec F S8x64 .f32} {n : ℕ} (h : n < 64) {w : Vec F S8x128 .f32}
    {L : List (View.Piece (Elt F) S16384x128 .f32)} (hw : w = payK v12 ⟨n, h⟩) (hL : piecesTo i v12 n = L) :
    piecesTo i v12 (n + 1) = (⟨rK i ⟨n, h⟩, w⟩ :: L : List (View.Piece (Elt F) S16384x128 .f32)) := by
  subst hw hL; simp only [piecesTo, dif_pos h, List.singleton_append]

/-- The sixty-four stores leave `newK`. -/
theorem readK (v : View sig .tc .vmem S16384x128 .f32) (f : v.ty.Contents (Elt F)) (i : grid0.Coords) (v12 : FVec F S8x64 .f32) :
    v.read (Elt F) (v.writes (Elt F) f (piecesTo i v12 64)) = newK i v12 (v.read (Elt F) f) := by
  funext y
  have hy1 : (y 1).val < 128 := (y 1).isLt
  by_cases h : 512 * (i 1).val ≤ (y 0).val ∧ (y 0).val < 512 * (i 1).val + 512
  · refine View.read_writes_apply_of_pieces v f (newK i v12 (v.read (Elt F) f)) _ ?_ y ?_
    · intro p hp x
      obtain ⟨j, -, rfl⟩ := (piecesTo_mem _ _ _ _).mp hp
      have e0 : ((rK i j).emb x 0).val = 512 * (i 1).val + 8 * j.val + (x 0).val := by
        show (k0_off3 i (BitVec.ofNat 32 (8 * j.val))) 0 + 1 * (x 0).val = _
        rw [k0_off3_eq]; simp
      have hx : (x 0).val < 8 := (x 0).isLt
      have hj : j.val < 64 := j.isLt
      show payK v12 j x = _
      rw [payK_apply]
      unfold newK
      rw [dif_pos (by rw [e0]; omega)]
      congr 2
      · apply Fin.ext; show (x 0).val = (((rK i j).emb x 0).val - 512 * (i 1).val) % 8
        rw [e0]; omega
      · apply Fin.ext; show j.val = (((rK i j).emb x 0).val - 512 * (i 1).val) / 8
        rw [e0]; omega
    · have hj : ((y 0).val - 512 * (i 1).val) / 8 < 64 := by omega
      refine ⟨_, (piecesTo_mem _ _ _ _).mpr ⟨⟨((y 0).val - 512 * (i 1).val) / 8, hj⟩, hj, rfl⟩, ?_⟩
      rw [Rect.mem_set_unit]
      intro a
      rw [k0_off3_eq]
      fin_cases a
      · show 512 * (i 1).val + 8 * (((y 0).val - 512 * (i 1).val) / 8) ≤ (y 0).val ∧ (y 0).val < 512 * (i 1).val + 8 * (((y 0).val - 512 * (i 1).val) / 8) + 8
        omega
      · show 0 ≤ (y 1).val ∧ (y 1).val < 0 + 128
        omega
  · rw [View.read_writes_apply_of_forall_not_mem v f y _ ?_]
    · unfold newK; rw [dif_neg h]
    · intro p hp
      obtain ⟨j, -, rfl⟩ := (piecesTo_mem _ _ _ _).mp hp
      rw [Rect.mem_set_unit]
      intro hh
      have := hh 0
      rw [k0_off3_eq] at this
      have h2 : 512 * (i 1).val + 8 * j.val ≤ (y 0).val ∧ (y 0).val < 512 * (i 1).val + 8 * j.val + 8 := this
      have hj : j.val < 64 := j.isLt
      omega

/-- The values' store leaves `newV`. -/
theorem readV (v : View sig .tc .vmem S128x16384 .bf16) (f : v.ty.Contents (Elt F)) (i : grid0.Coords) (p : Vec F S128x512 .bf16) :
    v.read (Elt F) (v.writes (Elt F) f [⟨rV i, p⟩]) = newV i p (v.read (Elt F) f) := by
  funext y
  by_cases h : 512 * (i 1).val ≤ (y 1).val ∧ (y 1).val < 512 * (i 1).val + 512
  · refine View.read_writes_apply_of_pieces v f (newV i p (v.read (Elt F) f)) _ ?_ y ?_
    · intro q hq x
      obtain rfl := List.mem_singleton.mp hq
      have e0 : ((rV i).emb x 0).val = (x 0).val := by
        show (k0_off6 i) 0 + 1 * (x 0).val = _
        rw [k0_off6_eq]; simp
      have e1 : ((rV i).emb x 1).val = 512 * (i 1).val + (x 1).val := by
        show (k0_off6 i) 1 + 1 * (x 1).val = _
        rw [k0_off6_eq]; simp
      have hx : (x 1).val < 512 := (x 1).isLt
      show p x = _
      unfold newV
      rw [dif_pos (by rw [e1]; omega)]
      congr 1
      funext a
      match a with
      | ⟨0, _⟩ => exact Fin.ext e0.symm
      | ⟨1, _⟩ => exact Fin.ext (by show (x 1).val = ((rV i).emb x 1).val - _; rw [e1]; omega)
    · refine ⟨_, List.mem_singleton_self _, ?_⟩
      rw [Rect.mem_set_unit]
      intro a
      rw [k0_off6_eq]
      have hy0 : (y 0).val < 128 := (y 0).isLt
      fin_cases a
      · show 0 ≤ (y 0).val ∧ (y 0).val < 0 + 128
        omega
      · show 512 * (i 1).val ≤ (y 1).val ∧ (y 1).val < 512 * (i 1).val + 512
        omega
  · rw [View.read_writes_apply_of_forall_not_mem v f y _ ?_]
    · unfold newV; rw [dif_neg h]
    · intro q hq
      obtain rfl := List.mem_singleton.mp hq
      rw [Rect.mem_set_unit]
      intro hh
      have := hh 1
      rw [k0_off6_eq] at this
      exact h this

/-- The key scales of this tile's group, scaled by the head's query scale. -/
def kscOf (i : grid0.Coords) (x0 : Vec F S112 .f32) (x4 : Vec F S1x256x64 .f32) : FVec F S8x64 .f32 :=
  k0_pay16 (View.ld x4 (Rect.unit (s := S1x256x64) (k0_off1 i) S1x8x64.size (k0_off1_inb i)))
    (View.ld x0 (Rect.unit (s := S112) (k0_off2 i) S1.size (k0_off2_inb i)) (Shape.Idx.first (numel1_S1.symm ▸ Nat.one_pos)))
/-- The dequantised values of this tile's group. -/
def vbOf (i : grid0.Coords) (x3 : Vec F S1x128x16384 .fp8e4m3) (x5 : Vec F S1x32x512 .f32) : Vec F S128x512 .bf16 :=
  k0_pay91 (View.ld x5 (Rect.unit (s := S1x32x512) (k0_off4 i) S1x1x512.size (k0_off4_inb i)))
    (View.ld x3 (Rect.unit (s := S1x128x16384) (k0_off5 i) S1x128x512.size (k0_off5_inb i)))

abbrev v589 : BitVec 32 := Scalar.select (Scalar.cmpi .eq 64#32 0#32) 1#32 64#32
/-- Each key's position inside its block of sixty-four. -/
def v607 : IVec S8x512 32 := k0_pay107 k0_pay102 k0_pay103 v589 k0_pay104 k0_pay105 k0_pay106 (Scalar.cmpi .slt v589 0#32)
/-- The diagonal tile's masked statistics, at the tile's key block `kb`, query block `qb` and key scales `kk`. -/
def d628 (kb qb : Vec F S1x512x128 .fp8e4m3) (kk : Vec F S512x128 .f32) : FVec F S8x512 .f32 :=
  k0_pay111 k0_pay102 k0_pay103 v589 k0_pay104 k0_pay105 k0_pay106 (Scalar.cmpi .slt v589 0#32) kb qb kk
def d637 (kb qb : Vec F S1x512x128 .fp8e4m3) (kk : Vec F S512x128 .f32) : FVec F S63x8x512 .f32 :=
  k0_pay112 k0_pay102 k0_pay103 v589 k0_pay104 k0_pay105 k0_pay106 (Scalar.cmpi .slt v589 0#32) kb qb kk
def d638 (kb qb : Vec F S1x512x128 .fp8e4m3) (kk : Vec F S512x128 .f32) : FVec F S8x512 .f32 :=
  k0_pay113 k0_pay102 k0_pay103 v589 k0_pay104 k0_pay105 k0_pay106 (Scalar.cmpi .slt v589 0#32) kb qb kk
def d640 : IVec S8x512 1 :=
  k0_pay114 k0_pay102 k0_pay103 v589 k0_pay104 k0_pay105 k0_pay106 (Scalar.cmpi .slt v589 0#32)

/-- The state after the diagonal tile. -/
def lastSt (qb kb : Vec F S1x512x128 .fp8e4m3) (kk : Vec F S512x128 .f32) (vv : Vec F S128x512 .bf16) (s : State F) : State F where
  m := k0_pay2 (k0_pay117 k0_pay102 (k0_pay109 kb qb kk) (d628 kb qb kk) d640 k0_pay115 s.m)
  l := k0_pay1 (k0_pay121 k0_pay102 v607 (k0_pay109 kb qb kk) (d628 kb qb kk) (d638 kb qb kk) d640 k0_pay115 s.m)
    (k0_pay123 k0_pay102 (k0_pay109 kb qb kk) (d628 kb qb kk) d640 k0_pay115 s.m s.l)
  a := k0_pay122 k0_pay102 v607 (k0_pay109 kb qb kk) (d628 kb qb kk) (d637 kb qb kk) (d638 kb qb kk) d640 k0_pay115 s.m vv s.a

/-- The output block, from the query block, the head's keys and the two scratch arrays. -/
def outF (i : grid0.Coords) (x1 : Vec F S1x512x128 .fp8e4m3) (x2 : Vec F S1x16384x128 .fp8e4m3)
    (K : Vec F S16384x128 .f32) (W : Vec F S128x16384 .bf16) : Vec F S1x512x128 .bf16 :=
  let s := lastSt (View.ld x1 rq)
    (View.ld x2 (Rect.unit (s := S1x16384x128) (k0_off13 i) S1x512x128.size (k0_off13_inb i)))
    (View.ld K (Rect.unit (s := S16384x128) (k0_off14 i) S512x128.size (k0_off14_inb i)))
    (View.ld W (rV i)) (St i x1 x2 K W (k0_t1_loop i).trips)
  k0_pay3 s.a s.l

/-- The rectangle of the tile's own key scales. -/
abbrev rKD (i : grid0.Coords) : Rect S16384x128 := Rect.unit (s := S16384x128) (k0_off14 i) S512x128.size (k0_off14_inb i)

/-- The tile's own key scales read back are the stored ones, whatever the array held. -/
theorem readCovK (v : View sig .tc .vmem S16384x128 .f32) (i : grid0.Coords) (v12 : FVec F S8x64 .f32) (K : Vec F S16384x128 .f32) :
    v.readCov (piecesTo i v12 64) (rKD i).toLoadRect = View.ld (newK i v12 K) (rKD i) := by
  funext x
  show v.read (Elt F) (v.writes (Elt F) v.junk (piecesTo i v12 64)) ((rKD i).emb x) = newK i v12 K ((rKD i).emb x)
  rw [readK]
  have e0 : ((rKD i).emb x 0).val = 512 * (i 1).val + (x 0).val := by
    show (k0_off14 i) 0 + 1 * (x 0).val = _
    rw [k0_off14_eq]; simp
  have hx : (x 0).val < 512 := (x 0).isLt
  unfold newK
  rw [dif_pos (by rw [e0]; omega), dif_pos (by rw [e0]; omega)]

/-- The tile's own values likewise. -/
theorem readCovV (v : View sig .tc .vmem S128x16384 .bf16) (i : grid0.Coords) (p : Vec F S128x512 .bf16) (W : Vec F S128x16384 .bf16) :
    v.readCov [(⟨rV i, p⟩ : View.Piece (Elt F) S128x16384 .bf16)] (rV i).toLoadRect = View.ld (newV i p W) (rV i) := by
  funext x
  show v.read (Elt F) (v.writes (Elt F) v.junk [⟨rV i, p⟩]) ((rV i).emb x) = newV i p W ((rV i).emb x)
  rw [readV]
  have e0 : ((rV i).emb x 1).val = 512 * (i 1).val + (x 1).val := by
    show (k0_off6 i) 1 + 1 * (x 1).val = _
    rw [k0_off6_eq]; simp
  have hx : (x 1).val < 512 := (x 1).isLt
  unfold newV
  rw [dif_pos (by rw [e0]; omega), dif_pos (by rw [e0]; omega)]

/-- A whole load of what a last whole store left reads the payload. -/
theorem readCovC1 (v : View sig .tc .vmem S1x512 .f32) (w : Vec F S1x512 .f32) (L : List (View.Piece (Elt F) S1x512 .f32)) :
    v.readCov ((⟨r1, w⟩ : View.Piece (Elt F) S1x512 .f32) :: L) r1.toLoadRect = w := by
  rw [View.readCov_eq_canon_ld _ _ _ (fun y => ⟨_, List.mem_cons_self, View.mem_set_unit_zero hz2 inb_S1x512_S1x512_0_0 y⟩),
    View.canon_cons_unit_zero hz2, View.ld_unit_zero hz2]
theorem readCovC2 (v : View sig .tc .vmem S128x512 .f32) (w : Vec F S128x512 .f32) (L : List (View.Piece (Elt F) S128x512 .f32)) :
    v.readCov ((⟨r2, w⟩ : View.Piece (Elt F) S128x512 .f32) :: L) r2.toLoadRect = w := by
  rw [View.readCov_eq_canon_ld _ _ _ (fun y => ⟨_, List.mem_cons_self, View.mem_set_unit_zero hz2 inb_S128x512_S128x512_0_0 y⟩),
    View.canon_cons_unit_zero hz2, View.ld_unit_zero hz2]

theorem out_congr (i : grid0.Coords) (x1 : Vec F S1x512x128 .fp8e4m3) (x2 : Vec F S1x16384x128 .fp8e4m3)
    {K K' : Vec F S16384x128 .f32} {W W' : Vec F S128x16384 .bf16}
    {a a' : Vec F S128x512 .f32} {l l' m1 l0 : Vec F S1x512 .f32} {a0 : Vec F S128x512 .f32}
    {qb kb : Vec F S1x512x128 .fp8e4m3} {kk : Vec F S512x128 .f32} {vv : Vec F S128x512 .bf16}
    (ha : a = a') (hl : l = l')
    (ha' : a' = (lastSt qb kb kk vv ⟨m1, l0, a0⟩).a) (hl' : l' = (lastSt qb kb kk vv ⟨m1, l0, a0⟩).l)
    (hq : qb = View.ld x1 rq)
    (hk : kb = View.ld x2 (Rect.unit (s := S1x16384x128) (k0_off13 i) S1x512x128.size (k0_off13_inb i)))
    (hkk : kk = View.ld K' (rKD i))
    (hvv : vv = View.ld W' (rV i))
    (hm : m1 = (St i x1 x2 K W (k0_t1_loop i).trips).m)
    (hl0 : l0 = (St i x1 x2 K W (k0_t1_loop i).trips).l) (ha0 : a0 = (St i x1 x2 K W (k0_t1_loop i).trips).a)
    (hK : K = K') (hW : W = W') :
    k0_pay3 a l = outF i x1 x2 K' W' := by
  subst ha hl ha' hl' hq hk hkk hvv hm hl0 ha0 hK hW
  rfl

set_option maxHeartbeats 8000000 in
/-- One grid point: the inputs are kept, the output block is `outF`, the scratch arrays gain this tile's group. -/
theorem sound_kernel (c : Dev nD) (E : Set ℕ) (i : grid0.Coords) (arg2 : Memref sig .tc .smem S112 .f32) (harg2 : arg2.IsWhole) (arg3 : Memref sig .tc .vmem S1x512x128 .fp8e4m3) (harg3 : arg3.IsWhole) (arg4 : Memref sig .tc .vmem S1x16384x128 .fp8e4m3) (harg4 : arg4.IsWhole) (arg5 : Memref sig .tc .vmem S1x128x16384 .fp8e4m3) (harg5 : arg5.IsWhole) (arg6 : Memref sig .tc .vmem S1x256x64 .f32) (harg6 : arg6.IsWhole) (arg7 : Memref sig .tc .vmem S1x32x512 .f32) (harg7 : arg7.IsWhole) (arg8 : Memref sig .tc .vmem S1x512x128 .bf16) (harg8 : arg8.IsWhole) (arg9 : Memref sig .tc .vmem S16384x128 .f32) (harg9 : arg9.IsWhole) (arg10 : Memref sig .tc .vmem S128x16384 .bf16) (harg10 : arg10.IsWhole) (arg11 : Memref sig .tc .vmem S1x512 .f32) (harg11 : arg11.IsWhole) (arg12 : Memref sig .tc .vmem S1x512 .f32) (harg12 : arg12.IsWhole) (arg13 : Memref sig .tc .vmem S128x512 .f32) (harg13 : arg13.IsWhole)
    (x0 : Vec F S112 .f32) (x1 : Vec F S1x512x128 .fp8e4m3) (x2 : Vec F S1x16384x128 .fp8e4m3) (x3 : Vec F S1x128x16384 .fp8e4m3)
    (x4 : Vec F S1x256x64 .f32) (x5 : Vec F S1x32x512 .f32) (K : Vec F S16384x128 .f32) (W : Vec F S128x16384 .bf16) (Q : PUnit → sProp 𝕄G) :
    iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ (∃ d, owns (c : Thread nD τ) arg8 fullShare d) ∗ owns (c : Thread nD τ) arg9 fullShare K ∗ owns (c : Thread nD τ) arg10 fullShare W ∗ (∃ d, owns (c : Thread nD τ) arg11 fullShare d) ∗ (∃ d, owns (c : Thread nD τ) arg12 fullShare d) ∗ (∃ d, owns (c : Thread nD τ) arg13 fullShare d)
      ∗ (iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ owns (c : Thread nD τ) arg8 fullShare (outF i x1 x2 (newK i (kscOf i x0 x4) K) (newV i (vbOf i x3 x5) W)) ∗ owns (c : Thread nD τ) arg9 fullShare (newK i (kscOf i x0 x4) K) ∗ owns (c : Thread nD τ) arg10 fullShare (newV i (vbOf i x3 x5) W) ∗ (∃ d, owns (c : Thread nD τ) arg11 fullShare d) ∗ (∃ d, owns (c : Thread nD τ) arg12 fullShare d) ∗ (∃ d, owns (c : Thread nD τ) arg13 fullShare d)) -∗ Q ⟨⟩))
    ⊢ wp frame (wpE (defs₀ (F := F)) Variants.none c none) E (cc0_landmark_attention_safe i arg2 harg2 arg3 harg3 arg4 harg4 arg5 harg5 arg6 harg6 arg7 harg7 arg8 harg8 arg9 harg9 arg10 harg10 arg11 harg11 arg12 harg12 arg13 harg13) Q := by
  simp only [cc0_landmark_attention_safe_eq_skeleton]; unfold cc0_landmark_attention_safe_skel
  simp only [k0_part3_eq_skeleton, k0_part4_eq_skeleton, k0_part5_eq_skeleton, k0_part6_eq_skeleton, k0_part7_eq_skeleton, k0_part8_eq_skeleton, k0_part9_eq_skeleton, k0_part10_eq_skeleton, k0_part11_eq_skeleton, k0_part12_eq_skeleton, k0_part13_eq_skeleton, k0_part14_eq_skeleton, k0_part15_eq_skeleton, k0_part16_eq_skeleton, k0_part17_eq_skeleton, k0_part18_eq_skeleton]
  unfold owns
  iintro ⟨⟨%f2, %h2, H2⟩, ⟨%f3, %h3, H3⟩, ⟨%f4, %h4, H4⟩, ⟨%f5, %h5, H5⟩, ⟨%f6, %h6, H6⟩, ⟨%f7, %h7, H7⟩, ⟨%d8, %f8, -, H8⟩, ⟨%f9, %h9, H9⟩, ⟨%f10, %h10, H10⟩, ⟨%d11, %f11, -, H11⟩, ⟨%d12, %f12, -, H12⟩, ⟨%d13, %f13, -, H13⟩, Hk⟩
  subst h2 h3 h4 h5 h6 h7 h9 h10
  sl_exec
  sl_step
  iapply Hk
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  isplitl [H5]
  · iexists f5; isplitr; · ipureintro; rfl
    iexact H5
  isplitl [H6]
  · iexists f6; isplitr; · ipureintro; rfl
    iexact H6
  isplitl [H7]
  · iexists f7; isplitr; · ipureintro; rfl
    iexact H7
  isplitl [H8]
  · iexists _; isplitr
    swap; · iexact H8
    ipureintro
    refine (View.read_writes_eq_canon _ _ _ ?_).trans ((View.canon_unit_zero hz3 _ _).trans ?_)
    · exact fun y => ⟨_, List.mem_singleton_self _, View.mem_set_unit_zero hz3 inb_S1x512x128_S1x512x128_0_0_0 y⟩
    · refine out_congr i _ _ (K := ?K) (W := ?W) (a' := ?a') (l' := ?l') (m1 := ?m1) (l0 := ?l0) (a0 := ?a0) (qb := ?qb) (kb := ?kb) (kk := ?kk) (vv := ?vv) ?ha ?hl ?ha' ?hl' ?hq ?hk ?hkk ?hvv ?hm ?hl0 ?ha0 ?hK ?hW
      case ha => exact readCovC2 (F := F) _ _ _
      case hl => exact readCovC1 (F := F) _ _ _
      case ha' => exact rfl
      case hl' => exact rfl
      case hq => exact rfl
      case hk => exact rfl
      case hm => exact readCov1 (F := F) _ _
      case hl0 => exact readCov1 (F := F) _ _
      case ha0 => exact readCov2 (F := F) _ _
      case hkk =>
        refine (congrArg (fun L => arg9.view.readCov L (rKD i).toLoadRect) ?_).trans (readCovK arg9.view i (kscOf i (arg2.view.read (Elt F) f2) (arg6.view.read (Elt F) f6)) _)
        refine Eq.symm ?_
        iterate 64 refine piecesTo_cons (by decide) rfl ?_
        rfl
      case hvv => exact readCovV arg10.view i _ _
      case hK =>
        refine (congrArg (fun L => arg9.view.read (Elt F) (arg9.view.writes (Elt F) f9 L)) ?_).trans (readK arg9.view f9 i (kscOf i (arg2.view.read (Elt F) f2) (arg6.view.read (Elt F) f6)))
        refine Eq.symm ?_
        iterate 64 refine piecesTo_cons (by decide) rfl ?_
        rfl
      case hW => exact readV arg10.view f10 i _
  isplitl [H9]
  · iexists _; isplitr
    swap; · iexact H9
    ipureintro
    refine (congrArg (fun L => arg9.view.read (Elt F) (arg9.view.writes (Elt F) f9 L)) ?_).trans (readK arg9.view f9 i (kscOf i (arg2.view.read (Elt F) f2) (arg6.view.read (Elt F) f6)))
    refine Eq.symm ?_
    iterate 64 refine piecesTo_cons (by decide) rfl ?_
    rfl
  isplitl [H10]
  · iexists _; isplitr
    swap; · iexact H10
    ipureintro
    exact readV _ _ _ _
  isplitl [H11]
  · iexists _; iexists _; isplitr
    swap; · iexact H11
    ipureintro; rfl
  isplitl [H12]
  · iexists _; iexists _; isplitr
    swap; · iexact H12
    ipureintro; rfl
  iexists _; iexists _; isplitr
  swap; · iexact H13
  ipureintro; rfl

end Cert.Kernel.Body

end
-- ==== Proof.Bits.Run.lean ====
/-
  The launch: what the two scratch arrays hold between grid points, the proof data of the pipeline, the body
  obligation at a generic point, the run, and the frame claim.
-/
module

public import proofs.«01_k».proof.Proof.Bits.Body
public import Idealize.ShloMosaic.Lib.Pipeline.FrameBody
public import Idealize.ShloMosaic.Lib.Claim

@[expose] public section

set_option maxRecDepth 16384

noncomputable section

namespace Cert.Kernel.Body

open Cert.Kernel Cert.Kernel.Gen
open Idealize.ShloMosaic Idealize.ShloMosaic.TcCoe Idealize.ShloMosaic.Tactic
open Idealize.SL Idealize.SL.RA Idealize.SL.BI
open scoped Idealize.SL.BI
open Idealize.ShloMosaic.Pipeline (Dat Cfg Window BodyObligation cellOf)
open Idealize.SL.BI.BIBase Idealize.SL.BI.Laws Idealize.SL.ProofMode Idealize.SL.Sem

variable {F : FTy → Type} [FloatOps F]

/-- The resource algebra of the frame kit. -/
local notation "𝕄G" => MT nD τ sig Unit (Elt F) ℕ (UR sig nD τ) ℕ

/-! ## The output block reads only the groups prepared so far -/

theorem ldK_congr {K K' : Vec F S16384x128 .f32} {n g : ℕ} (h : ∀ y, (y 0).val < 512 * n → K y = K' y) (hg : g < n)
    (off : Fin 2 → ℕ) (inb : ∀ a, off a + S512x128.size a ≤ S16384x128.size a) (ho : off = ![512 * g, 0]) :
    View.ld K (Rect.unit (s := S16384x128) off S512x128.size inb) = View.ld K' (Rect.unit (s := S16384x128) off S512x128.size inb) := by
  subst ho
  funext x
  have hx : (x 0).val < 512 := (x 0).isLt
  refine h _ ?_
  show 512 * g + 1 * (x 0).val < _
  omega

theorem ldW_congr {W W' : Vec F S128x16384 .bf16} {n g : ℕ} (h : ∀ y, (y 1).val < 512 * n → W y = W' y) (hg : g < n)
    (off : Fin 2 → ℕ) (inb : ∀ a, off a + S128x512.size a ≤ S128x16384.size a) (ho : off = ![0, 512 * g]) :
    View.ld W (Rect.unit (s := S128x16384) off S128x512.size inb) = View.ld W' (Rect.unit (s := S128x16384) off S128x512.size inb) := by
  subst ho
  funext x
  have hx : (x 1).val < 512 := (x 1).isLt
  refine h _ ?_
  show 512 * g + 1 * (x 1).val < _
  omega

/-- The state after `n` past groups reads those groups only. -/
theorem St_congr (i : grid0.Coords) (x1 : Vec F S1x512x128 .fp8e4m3) (x2 : Vec F S1x16384x128 .fp8e4m3)
    {K K' : Vec F S16384x128 .f32} {W W' : Vec F S128x16384 .bf16} {b : ℕ}
    (hK : ∀ y, (y 0).val < 512 * b → K y = K' y) (hW : ∀ y, (y 1).val < 512 * b → W y = W' y) :
    ∀ n ≤ b, St i x1 x2 K W n = St i x1 x2 K' W' n
  | 0, _ => rfl
  | n + 1, hn => by
    unfold St
    by_cases h : n < (k0_t1_loop i).trips
    · rw [dif_pos h, dif_pos h, St_congr i x1 x2 hK hW n (by omega),
        ldK_congr hK (g := n) (by omega) _ _ (k0_off8_eq i ⟨n, h⟩), ldW_congr hW (g := n) (by omega) _ _ (k0_off9_eq i ⟨n, h⟩)]
    · rw [dif_neg h, dif_neg h, St_congr i x1 x2 hK hW n (by omega)]

/-- The output block reads the past groups and the tile's own. -/
theorem outF_congr (i : grid0.Coords) (x1 : Vec F S1x512x128 .fp8e4m3) (x2 : Vec F S1x16384x128 .fp8e4m3)
    {K K' : Vec F S16384x128 .f32} {W W' : Vec F S128x16384 .bf16}
    (hK : ∀ y, (y 0).val < 512 * ((i 1).val + 1) → K y = K' y) (hW : ∀ y, (y 1).val < 512 * ((i 1).val + 1) → W y = W' y) :
    outF i x1 x2 K W = outF i x1 x2 K' W' := by
  unfold outF
  rw [St_congr i x1 x2 hK hW _ (by rw [trips1]; omega),
    ldK_congr hK (g := (i 1).val) (by omega) _ _ (k0_off14_eq i), ldW_congr hW (g := (i 1).val) (by omega) _ _ (k0_off6_eq i)]

/-! ## The prepared arrays of a head -/

variable (m : (ℓ : Loc nD τ sig) → Buf (Elt F) ℓ) (ρ : Dev nD → PrngReg)

theorem N0 : cfg0.N = 3584 := by decide +kernel

/-- The grid point of a number. -/
def pt (n : ℕ) : Fin cfg0.N := ⟨n % 3584, by rw [N0]; exact Nat.mod_lt _ (by norm_num)⟩

theorem pt_self (t : Fin cfg0.N) : pt t.val = t := Fin.ext (Nat.mod_eq_of_lt (N0 ▸ t.isLt))

theorem coords0 (t : Fin cfg0.N) : (grid0.coords t 0).val = t.val / 32 := by
  have h : t.val < 3584 := N0 ▸ t.isLt
  rw [Pipeline.Grid.coords_val (G := grid0) t 0 (S := 32) (B := 112) (by decide +kernel) (by rfl)]
  omega
theorem coords1 (t : Fin cfg0.N) : (grid0.coords t 1).val = t.val % 32 := by
  rw [Pipeline.Grid.coords_val (G := grid0) t 1 (S := 1) (B := 32) (by decide +kernel) (by rfl)]
  omega

/-- Head `b`'s key scales, times its query scale, one row per key in the kernel's key order: row `512 g + 8 j + s` is
    the scale of the key at block `s`, place `j` of group `g`. -/
def prepK (c : Dev nD) (b : ℕ) : Vec F S16384x128 .f32 := fun y =>
  kscOf (grid0.coords (pt (32 * b + (y 0).val / 512))) (iblk m c 0 (pt (32 * b + (y 0).val / 512))) (iblk m c 4 (pt (32 * b + (y 0).val / 512)))
    (ix2 (n0 := 8) (n1 := 64) ⟨(y 0).val % 512 % 8, by omega⟩ ⟨(y 0).val % 512 / 8, by omega⟩)

/-- Head `b`'s dequantised values, one column per key in the same order. -/
def prepV (c : Dev nD) (b : ℕ) : Vec F S128x16384 .bf16 := fun y =>
  vbOf (grid0.coords (pt (32 * b + (y 1).val / 512))) (iblk m c 3 (pt (32 * b + (y 1).val / 512))) (iblk m c 5 (pt (32 * b + (y 1).val / 512)))
    (ix2 (n0 := 128) (n1 := 512) (y 0) ⟨(y 1).val % 512, by omega⟩)

theorem newK_prep (c : Dev nD) (t : Fin cfg0.N) {K : Vec F S16384x128 .f32}
    (hK : ∀ y, (y 0).val < 512 * (t.val % 32) → K y = prepK m c (t.val / 32) y) (y : S16384x128.Idx)
    (hy : (y 0).val < 512 * ((grid0.coords t 1).val + 1)) :
    newK (grid0.coords t) (kscOf (grid0.coords t) (iblk m c 0 t) (iblk m c 4 t)) K y = prepK m c (t.val / 32) y := by
  unfold newK
  rw [coords1] at hy
  by_cases h : 512 * (grid0.coords t 1).val ≤ (y 0).val ∧ (y 0).val < 512 * (grid0.coords t 1).val + 512
  · rw [dif_pos h]
    rw [coords1] at h
    have e : 32 * (t.val / 32) + (y 0).val / 512 = t.val := by omega
    unfold prepK
    rw [e, pt_self]
    congr 2
    · apply Fin.ext; show ((y 0).val - 512 * (grid0.coords t 1).val) % 8 = (y 0).val % 512 % 8; rw [coords1]; omega
    · apply Fin.ext; show ((y 0).val - 512 * (grid0.coords t 1).val) / 8 = (y 0).val % 512 / 8; rw [coords1]; omega
  · rw [dif_neg h]
    rw [coords1] at h
    exact hK y (by omega)

theorem newV_prep (c : Dev nD) (t : Fin cfg0.N) {W : Vec F S128x16384 .bf16}
    (hW : ∀ y, (y 1).val < 512 * (t.val % 32) → W y = prepV m c (t.val / 32) y) (y : S128x16384.Idx)
    (hy : (y 1).val < 512 * ((grid0.coords t 1).val + 1)) :
    newV (grid0.coords t) (vbOf (grid0.coords t) (iblk m c 3 t) (iblk m c 5 t)) W y = prepV m c (t.val / 32) y := by
  unfold newV
  rw [coords1] at hy
  by_cases h : 512 * (grid0.coords t 1).val ≤ (y 1).val ∧ (y 1).val < 512 * (grid0.coords t 1).val + 512
  · rw [dif_pos h]
    rw [coords1] at h
    have e : 32 * (t.val / 32) + (y 1).val / 512 = t.val := by omega
    unfold prepV
    rw [e, pt_self]
    congr 2
    apply Fin.ext; show (y 1).val - 512 * (grid0.coords t 1).val = (y 1).val % 512; rw [coords1]; omega
  · rw [dif_neg h]
    rw [coords1] at h
    exact hW y (by omega)

/-- The output block at a grid point. -/
def outAt (c : Dev nD) (t : Fin cfg0.N) : Vec F S1x512x128 .bf16 :=
  outF (grid0.coords t) (iblk m c 1 t) (iblk m c 2 t) (prepK m c (t.val / 32)) (prepV m c (t.val / 32))

theorem outAt_eq (c : Dev nD) (t : Fin cfg0.N) {K : Vec F S16384x128 .f32} {W : Vec F S128x16384 .bf16}
    (hK : ∀ y, (y 0).val < 512 * (t.val % 32) → K y = prepK m c (t.val / 32) y)
    (hW : ∀ y, (y 1).val < 512 * (t.val % 32) → W y = prepV m c (t.val / 32) y) :
    outF (grid0.coords t) (iblk m c 1 t) (iblk m c 2 t)
        (newK (grid0.coords t) (kscOf (grid0.coords t) (iblk m c 0 t) (iblk m c 4 t)) K)
        (newV (grid0.coords t) (vbOf (grid0.coords t) (iblk m c 3 t) (iblk m c 5 t)) W) = outAt m c t :=
  outF_congr _ _ _ (newK_prep m c t hK) (newV_prep m c t hW)

/-! ## The pipeline's proof data -/

/-- Before grid point `n` the two carried arrays hold the groups of the current head prepared so far. -/
def Inv (c : Dev nD) (n : ℕ) (K : Vec F S16384x128 .f32) (W : Vec F S128x16384 .bf16) : Prop :=
  (∀ y, (y 0).val < 512 * (n % 32) → K y = prepK m c (n / 32) y) ∧ (∀ y, (y 1).val < 512 * (n % 32) → W y = prepV m c (n / 32) y)

/-- The invariant between grid points. -/
def Phi (c : Dev nD) (n : ℕ) : sProp 𝕄G :=
  iprop((∃ K W, owns (c : Thread nD τ) (Memref.whole cc0_scratch0) fullShare K ∗ owns (c : Thread nD τ) (Memref.whole cc0_scratch1) fullShare W ∗ ⌜Inv m c n K W⌝)
    ∗ (∃ d, owns (c : Thread nD τ) (Memref.whole cc0_scratch2) fullShare d) ∗ (∃ d, owns (c : Thread nD τ) (Memref.whole cc0_scratch3) fullShare d)
    ∗ (∃ d, owns (c : Thread nD τ) (Memref.whole cc0_scratch4) fullShare d) ∗ (∃ r, prngReg c r))

/-- Before the first point nothing is said of the scratch; -/
theorem phi_in (c : Dev nD) : Pipeline.ΦA spec0 c ⊢ Phi m c 0 := by
  unfold Pipeline.ΦA Phi
  rw [scopedRest0_eq]
  simp only [owns_whole]
  iintro ⟨⟨⟨%f0, H0⟩, ⟨%f1, H1⟩, H2, H3, H4⟩, Hr⟩
  isplitl [H0 H1]
  · iexists f0; iexists f1
    isplitl [H0]; · iexact H0
    isplitl [H1]; · iexact H1
    ipureintro
    exact ⟨fun y hy => absurd hy (by omega), fun y hy => absurd hy (by omega)⟩
  isplitl [H2]; · iexact H2
  isplitl [H3]; · iexact H3
  isplitl [H4]; · iexact H4
  iexact Hr

/-- after the last one it is forgotten. -/
theorem phi_out (c : Dev nD) (n : ℕ) : Phi m c n ⊢ Pipeline.ΦA spec0 c := by
  unfold Pipeline.ΦA Phi
  rw [scopedRest0_eq]
  simp only [owns_whole]
  iintro ⟨⟨%K, %W, H0, H1, -⟩, H2, H3, H4, Hr⟩
  isplitr [Hr]
  · isplitl [H0]; · iexists K; iexact H0
    isplitl [H1]; · iexists W; iexact H1
    isplitl [H2]; · iexact H2
    isplitl [H3]; · iexact H3
    iexact H4
  iexact Hr

/-- The proof data of the one pipeline. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => iblk m c 4 t
    | ⟨5, _⟩ => iblk m c 5 t
    | ⟨6, _⟩ => outAt m c t
  Φ t := Phi m c t.val
  q _ := fullShare
  owed _ := 0

theorem A_eq (c : Dev nD) (w : Fin cfg0.W) : (dats m 0 c).A w = V m c (Pipeline.arrRef spec0 w) := by
  dsimp only [dats]
theorem after0_0 (c : Dev nD) (t : Fin cfg0.N) : (dats m 0 c).after 0 t = iblk m c 0 t := by dsimp only [dats]
theorem after0_1 (c : Dev nD) (t : Fin cfg0.N) : (dats m 0 c).after 1 t = iblk m c 1 t := by dsimp only [dats]
theorem after0_2 (c : Dev nD) (t : Fin cfg0.N) : (dats m 0 c).after 2 t = iblk m c 2 t := by dsimp only [dats]
theorem after0_3 (c : Dev nD) (t : Fin cfg0.N) : (dats m 0 c).after 3 t = iblk m c 3 t := by dsimp only [dats]
theorem after0_4 (c : Dev nD) (t : Fin cfg0.N) : (dats m 0 c).after 4 t = iblk m c 4 t := by dsimp only [dats]
theorem after0_5 (c : Dev nD) (t : Fin cfg0.N) : (dats m 0 c).after 5 t = iblk m c 5 t := by dsimp only [dats]
theorem after0_6 (c : Dev nD) (t : Fin cfg0.N) : (dats m 0 c).after 6 t = outAt m c t := by dsimp only [dats]
theorem before0_0 (c : Dev nD) (t : Fin cfg0.N) (d) : (dats m 0 c).before 0 t d = iblk m c 0 t :=
  before0_0_of m (dats m 0 c) (A_eq m c 0) (after0_0 m c) t d
theorem before0_1 (c : Dev nD) (t : Fin cfg0.N) (d) : (dats m 0 c).before 1 t d = iblk m c 1 t :=
  before0_1_of m (dats m 0 c) (A_eq m c 1) (after0_1 m c) t d
theorem before0_2 (c : Dev nD) (t : Fin cfg0.N) (d) : (dats m 0 c).before 2 t d = iblk m c 2 t :=
  before0_2_of m (dats m 0 c) (A_eq m c 2) (after0_2 m c) t d
theorem before0_3 (c : Dev nD) (t : Fin cfg0.N) (d) : (dats m 0 c).before 3 t d = iblk m c 3 t :=
  before0_3_of m (dats m 0 c) (A_eq m c 3) (after0_3 m c) t d
theorem before0_4 (c : Dev nD) (t : Fin cfg0.N) (d) : (dats m 0 c).before 4 t d = iblk m c 4 t :=
  before0_4_of m (dats m 0 c) (A_eq m c 4) (after0_4 m c) t d
theorem before0_5 (c : Dev nD) (t : Fin cfg0.N) (d) : (dats m 0 c).before 5 t d = iblk m c 5 t :=
  before0_5_of m (dats m 0 c) (A_eq m c 5) (after0_5 m c) t d

/-- What the body is called with at a grid point, -/
def bodyPre (c : Dev nD) (t : Fin cfg0.N) : sProp 𝕄G :=
  iprop((dats m 0 c).Φ t.castSucc ∗ (dats m 0 c).owesAt () t.castSucc
    ∗ (∃ d, owns (c : Thread nD τ) (st0_0 t) fullShare ((dats m 0 c).before 0 t d))
    ∗ (∃ d, owns (c : Thread nD τ) (st0_1 t) fullShare ((dats m 0 c).before 1 t d))
    ∗ (∃ d, owns (c : Thread nD τ) (st0_2 t) fullShare ((dats m 0 c).before 2 t d))
    ∗ (∃ d, owns (c : Thread nD τ) (st0_3 t) fullShare ((dats m 0 c).before 3 t d))
    ∗ (∃ d, owns (c : Thread nD τ) (st0_4 t) fullShare ((dats m 0 c).before 4 t d))
    ∗ (∃ d, owns (c : Thread nD τ) (st0_5 t) fullShare ((dats m 0 c).before 5 t d))
    ∗ (∃ d, owns (c : Thread nD τ) (st0_6 t) fullShare ((dats m 0 c).before 6 t d)))

/-- and what it returns. -/
def bodyPost (c : Dev nD) (t : Fin cfg0.N) : sProp 𝕄G :=
  iprop((dats m 0 c).Φ t.succ ∗ (dats m 0 c).owesAt () t.succ
    ∗ owns (c : Thread nD τ) (st0_0 t) fullShare ((dats m 0 c).after 0 t)
    ∗ owns (c : Thread nD τ) (st0_1 t) fullShare ((dats m 0 c).after 1 t)
    ∗ owns (c : Thread nD τ) (st0_2 t) fullShare ((dats m 0 c).after 2 t)
    ∗ owns (c : Thread nD τ) (st0_3 t) fullShare ((dats m 0 c).after 3 t)
    ∗ owns (c : Thread nD τ) (st0_4 t) fullShare ((dats m 0 c).after 4 t)
    ∗ owns (c : Thread nD τ) (st0_5 t) fullShare ((dats m 0 c).after 5 t)
    ∗ owns (c : Thread nD τ) (st0_6 t) fullShare ((dats m 0 c).after 6 t))

theorem Inv_succ (c : Dev nD) (t : Fin cfg0.N) {K : Vec F S16384x128 .f32} {W : Vec F S128x16384 .bf16} (h : Inv m c t.val K W) :
    Inv m c (t.val + 1) (newK (grid0.coords t) (kscOf (grid0.coords t) (iblk m c 0 t) (iblk m c 4 t)) K)
        (newV (grid0.coords t) (vbOf (grid0.coords t) (iblk m c 3 t) (iblk m c 5 t)) W) := by
  by_cases hz : (t.val + 1) % 32 = 0
  · exact ⟨fun y hy => absurd hy (by omega), fun y hy => absurd hy (by omega)⟩
  · have e : (t.val + 1) / 32 = t.val / 32 := by omega
    have e' : (t.val + 1) % 32 = t.val % 32 + 1 := by omega
    unfold Inv
    rw [e, e']
    exact ⟨fun y hy => newK_prep m c t h.1 y (by rw [coords1]; exact hy), fun y hy => newV_prep m c t h.2 y (by rw [coords1]; exact hy)⟩

set_option maxHeartbeats 1000000 in
/-- The body at any grid point. -/
theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before0_0, before0_1, before0_2, before0_3, before0_4, before0_5]
  rw [show (dats m 0 c).Φ t.succ = Phi m c (t.val + 1) from rfl, show (dats m 0 c).Φ t.castSucc = Phi m c t.val from rfl,
    show (dats m 0 c).owesAt () t.succ = (dats m 0 c).owesAt () t.castSucc from rfl,
    after0_0, after0_1, after0_2, after0_3, after0_4, after0_5, after0_6]
  unfold Phi
  iintro ⟨⟨⟨%K, %W, HK, HW, %hI⟩, Hm, Hl, Ha, Hr⟩, Ho, ⟨%d0, H0⟩, ⟨%d1, H1⟩, ⟨%d2, H2⟩, ⟨%d3, H3⟩, ⟨%d4, H4⟩, ⟨%d5, H5⟩, ⟨%d6, H6⟩⟩
  iapply (sound_kernel c Set.univ (grid0.coords t) _ _ _ _ _ _ _ _ _ _ _ _ _ _ _ _ _ _ _ _ _ _ _ _ (iblk m c 0 t) (iblk m c 1 t) (iblk m c 2 t) (iblk m c 3 t) (iblk m c 4 t) (iblk m c 5 t) K W _)
  isplitl [H0]; · iexact H0
  isplitl [H1]; · iexact H1
  isplitl [H2]; · iexact H2
  isplitl [H3]; · iexact H3
  isplitl [H4]; · iexact H4
  isplitl [H5]; · iexact H5
  isplitl [H6]; · iexists _; iexact H6
  isplitl [HK]; · iexact HK
  isplitl [HW]; · iexact HW
  isplitl [Hm]; · iexact Hm
  isplitl [Hl]; · iexact Hl
  isplitl [Ha]; · iexact Ha
  iintro ⟨H0, H1, H2, H3, H4, H5, H6, HK, HW, Hm, Hl, Ha⟩
  isplitl [HK HW Hm Hl Ha Hr]
  · isplitl [HK HW]
    · iexists _; iexists _
      isplitl [HK]; · iexact HK
      isplitl [HW]; · iexact HW
      ipureintro
      exact Inv_succ m c t hI
    isplitl [Hm]; · iexact Hm
    isplitl [Hl]; · iexact Hl
    isplitl [Ha]; · iexact Ha
    iexact Hr
  isplitl [Ho]; · iexact Ho
  isplitl [H0]; · iexact H0
  isplitl [H1]; · iexact H1
  isplitl [H2]; · iexact H2
  isplitl [H3]; · iexact H3
  isplitl [H4]; · iexact H4
  isplitl [H5]; · iexact H5
  rw [← outAt_eq m c t hI.1 hI.2]
  iexact H6

theorem defs₀_row (t : Fin cfg0.N) :
    defs₀ (F := F) .tc cfg0.body (cfg0.bodyArgs t (cfg0.slots t)) = bodyAt0 t := by
  unfold defs₀; rw [Defs.onTc_tc]

/-- The library's body obligation, at every point. -/
theorem body_obligation (c : Dev nD) : BodyObligation (dats (F := F) m 0 c) (defs₀ (F := F)) Variants.none () Set.univ := fun t => by
  rw [bigSep_W0, bigSep_W0, defs₀_row]
  exact triple_restated (sound_body m c t) rfl .rfl fun _ => .rfl

set_option backward.isDefEq.respectTransparency.types false in
set_option maxHeartbeats 800000 in
/-- The launch: every execution terminates, the arrays at what the pipeline computes from the proof data, the other
    buffers as the region found them, every semaphore counter at zero. -/
theorem run_main_quiescent : θ_run defs (onTc (τ := τ) (main (F := F))) (s₀ m ρ)
    (fun r => (Pipeline.FramePost cfgs (dats m) 0 (V m)) r ∧ r.2.sem = fun _ => 0) :=
  Pipeline.θ_run_frame_track cfgs (dats m) (0 : Fin 1) launch0 defs₀ Variants.none m ρ main
    (hbody := fun c => (body_obligation m c).loose) (hshare := fun c => (dats m 0 c).share_full fun _ => rfl)
    (howed := fun _ _ => rfl) (V := V m) (hmain := hmain m Variants.none) (hA := A_eq m)
    (hin := fun c => phi_in m c) (hout := fun c => phi_out m c _)
    (Q' := fun r => (Pipeline.FramePost cfgs (dats m) 0 (V m)) r ∧ r.2.sem = fun _ => 0) (hQ' := fun _ h => h)

theorem run_main : θ_run defs (onTc (τ := τ) (main (F := F))) (s₀ m ρ) (Pipeline.FramePost cfgs (dats m) 0 (V m)) :=
  (θ_run defs _ _).mono (fun _ h => h.1) (run_main_quiescent m ρ)

/-- The frame claim, at any values: the argument arrays end unchanged and every semaphore counter at zero. -/
theorem frame : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5))
      ∧ r.2.sem = fun _ => 0) :=
  θ_run_and (frame_of m ρ (dats m) (A_eq m) (run_main m ρ)) ((θ_run defs _ _).mono (fun _ h => h.2) (run_main_quiescent m ρ))

end Cert.Kernel.Body

end
-- ==== Proof.Payload.lean ====
/-
  The kernel body's payloads read at one index over the extended reals.
-/
module

public import proofs.«01_k».proof.Proof.Body
public import Idealize.ShloMosaic.Lib.Pointwise

@[expose] public section

set_option maxRecDepth 16384

noncomputable section

namespace Cert.KernelIdeal.Payload

open Cert.KernelIdeal Cert.KernelIdeal.Gen Cert.KernelIdeal.Body
open Idealize.ShloMosaic

/-- The fold of `max` from −∞ over finitely many values. -/
abbrev fmax {n : ℕ} (f : Fin n → EReal) : EReal := (Finset.univ : Finset (Fin n)).fold max ⊥ f

/-- The pattern of −∞ denotes it. -/
theorem neg_inf : Ideal.ofBits .f32 0xFF800000#32 = ⊥ := by simp [Ideal.ofBits, Ideal.ieee]

/-- The finite stand-in for −∞. -/
abbrev NEG : EReal := Ideal.ofBits .f32 0xF149F2CA#32

variable (kb qb : Vec Ideal S1x512x128 .fp8e4m3) (kk : Vec Ideal S512x128 .f32) (vv : Vec Ideal S128x512 .bf16)

/-- The score (base two) of key row `8 j + β` against query column `c`, at the row scales `κ`. -/
def T (κ : Fin 512 → EReal) (j : Fin 64) (β : Fin 8) (c : Fin 512) : EReal :=
  (∑ d : Fin 128, kb (ix3 0 ⟨j.val * 8 + β.val, by omega⟩ d) * qb (ix3 0 c d)) * κ ⟨j.val * 8 + β.val, by omega⟩

theorem pay4_apply {κ : Fin 512 → EReal} (hk : ∀ r x, kk (ix2 r x) = κ r) (j : Fin 64) (β : Fin 8) (c : Fin 512) :
    k0_pay4 kb qb kk (ix3 j β c) = T kb qb κ j β c := by
  pointwise [k0_pay4]
  simp only [hk]
  unfold T
  split_ifs <;> rfl

theorem pay108_apply {κ : Fin 512 → EReal} (hk : ∀ r x, kk (ix2 r x) = κ r) (j : Fin 64) (β : Fin 8) (c : Fin 512) :
    k0_pay108 kb qb kk (ix3 j β c) = T kb qb κ j β c := by
  pointwise [k0_pay108]
  simp only [hk]
  unfold T
  split_ifs <;> rfl

theorem pay5_apply (β : Fin 8) (c : Fin 512) :
    k0_pay5 kb qb kk (ix2 β c) = k0_pay4 kb qb kk (ix3 63 β c) := by
  pointwise [k0_pay5]

theorem pay109_apply (β : Fin 8) (c : Fin 512) :
    k0_pay109 kb qb kk (ix2 β c) = k0_pay108 kb qb kk (ix3 63 β c) := by
  pointwise [k0_pay109]

theorem pay6_apply (m : Vec Ideal S1x512 .f32) (c : Fin 512) :
    k0_pay6 kb qb kk m (ix2 0 c) = max (m (ix2 0 c)) (fmax fun β : Fin 8 => k0_pay5 kb qb kk (ix2 β c)) := by
  pointwise [k0_pay6]
  rw [neg_inf]

theorem pay7_apply (m : Vec Ideal S1x512 .f32) (c : Fin 512) :
    k0_pay7 kb qb kk m (ix2 0 c) = Ideal.exp2 (m (ix2 0 c) - k0_pay6 kb qb kk m (ix2 0 c)) := by
  pointwise [k0_pay7]
  rfl

theorem pay8_apply (m : Vec Ideal S1x512 .f32) (β : Fin 8) (c : Fin 512) :
    k0_pay8 kb qb kk m (ix2 β c) = Ideal.exp2 (k0_pay5 kb qb kk (ix2 β c) - k0_pay6 kb qb kk m (ix2 0 c)) := by
  pointwise [k0_pay8]
  rfl

/-- The weight of key row `r` in a past group. -/
theorem pay9_apply (m : Vec Ideal S1x512 .f32) (r : Fin 512) (c : Fin 512) :
    k0_pay9 kb qb kk m (ix2 r c) = if h : r.val / 8 < 63 then
      Ideal.exp2 (k0_pay4 kb qb kk (ix3 ⟨r.val / 8, by omega⟩ ⟨r.val % 8, by omega⟩ c)
          - fmax fun j : Fin 63 => k0_pay4 kb qb kk (ix3 ⟨j.val, by omega⟩ ⟨r.val % 8, by omega⟩ c))
        * Ideal.div (k0_pay8 kb qb kk m (ix2 ⟨r.val % 8, by omega⟩ c))
          (∑ j : Fin 63, Ideal.exp2 (k0_pay4 kb qb kk (ix3 ⟨j.val, by omega⟩ ⟨r.val % 8, by omega⟩ c)
            - fmax fun j : Fin 63 => k0_pay4 kb qb kk (ix3 ⟨j.val, by omega⟩ ⟨r.val % 8, by omega⟩ c)))
      else 0 := by
  pointwise [k0_pay9]
  simp only [neg_inf]
  rfl

theorem pay95_apply (al : FVec Ideal S1x512 .f32) (w : FVec Ideal S512x512 .bf16) (a : Vec Ideal S128x512 .f32) (x : Fin 128) (c : Fin 512) :
    k0_pay95 al w vv (constant S128x512 .f32 0x00000000#32) a (ix2 x c)
      = a (ix2 x c) * al (ix2 0 c) + ∑ r : Fin 512, vv (ix2 x r) * w (ix2 r c) := by
  pointwise [k0_pay95]

theorem pay96_apply (al l : FVec Ideal S1x512 .f32) (e : FVec Ideal S8x512 .f32) (c : Fin 512) :
    k0_pay96 al e l (ix2 0 c) = l (ix2 0 c) * al (ix2 0 c) + ∑ β : Fin 8, e (ix2 β c) := by
  pointwise [k0_pay96]

theorem pay97_apply (m : FVec Ideal S1x512 .f32) : k0_pay97 m = m := by
  funext j
  idx_vars j
  pointwise [k0_pay97]

/-! The diagonal tile. -/

theorem v607_eq : ∀ (β : Fin 8) (c : Fin 512), v607 (ix2 β c)
    = if β.val < c.val / 64 then 64#32 else if β.val = c.val / 64 then BitVec.ofNat 32 (c.val % 64) else 4294967295#32 := by
  decide +kernel

theorem own_eq : ∀ (β : Fin 8) (c : Fin 512), k0_pay102 (ix2 β c) = BitVec.ofBool (decide (β.val = c.val / 64)) := by
  decide +kernel

theorem sel_dec (p : Prop) [Decidable p] {α : Type} (x y : α) : Scalar.select (BitVec.ofBool (decide p)) x y = if p then x else y := by
  by_cases h : p <;> simp [Scalar.select, h]

/-- Which keys of the diagonal tile the query of column `c` sees: all of a past block, the own block up to itself. -/
abbrev Vis (j : ℕ) (β : ℕ) (c : ℕ) : Prop := β < c / 64 ∨ (β = c / 64 ∧ j ≤ c % 64)

theorem mask_eq : ∀ (j : Fin 63) (l : Fin 64), IntOp.cmpi .sle (BitVec.ofNat 32 j.val) (BitVec.ofNat 32 l.val) = BitVec.ofBool (decide (j.val ≤ l.val)) := by
  decide +kernel
theorem mask_eq1 : ∀ (j : Fin 63), IntOp.cmpi .sle (BitVec.ofNat 32 j.val) 64#32 = BitVec.ofBool true := by
  decide +kernel
theorem mask_eq2 : ∀ (j : Fin 63), IntOp.cmpi .sle (BitVec.ofNat 32 j.val) 4294967295#32 = BitVec.ofBool false := by
  decide +kernel
theorem mask_eq3 : ∀ (l : Fin 64), IntOp.cmpi .slt (BitVec.ofNat 32 l.val) 0#32 = BitVec.ofBool false := by
  decide +kernel

theorem vis_eq (j : Fin 63) (β : Fin 8) (c : Fin 512) :
    IntOp.cmpi .sle (BitVec.ofNat 32 j.val) (v607 (ix2 β c)) = BitVec.ofBool (decide (Vis j.val β.val c.val)) := by
  rw [v607_eq]
  split_ifs with h h'
  · rw [mask_eq1]; simp [Vis, h]
  · rw [mask_eq j ⟨c.val % 64, by omega⟩]; simp [Vis, h, h']
  · rw [mask_eq2]; simp [Vis, h, h']

theorem dead_eq (β : Fin 8) (c : Fin 512) :
    IntOp.cmpi .slt (v607 (ix2 β c)) 0#32 = BitVec.ofBool (decide (c.val / 64 < β.val)) := by
  rw [v607_eq]
  split_ifs with h h'
  · simp [show ¬ c.val / 64 < β.val by omega, show IntOp.cmpi .slt 64#32 0#32 = BitVec.ofBool false by decide]
  · rw [mask_eq3 ⟨c.val % 64, by omega⟩]; simp [h']
  · simp [show c.val / 64 < β.val by omega, show IntOp.cmpi .slt 4294967295#32 0#32 = BitVec.ofBool true by decide]

theorem v607_fold : k0_pay107 k0_pay102 k0_pay103 v589 k0_pay104 k0_pay105 k0_pay106 (Scalar.cmpi .slt v589 0#32) = v607 := rfl

/-- The masked score. -/
theorem pay110_apply (j : Fin 63) (β : Fin 8) (c : Fin 512) :
    k0_pay110 k0_pay102 k0_pay103 v589 k0_pay104 k0_pay105 k0_pay106 (Scalar.cmpi .slt v589 0#32) kb qb kk (ix3 j β c)
      = if Vis j.val β.val c.val then k0_pay108 kb qb kk (ix3 ⟨j.val, by omega⟩ β c) else NEG := by
  pointwise [k0_pay110]
  rw [v607_fold, vis_eq, sel_dec]

theorem d628_apply (β : Fin 8) (c : Fin 512) :
    d628 kb qb kk (ix2 β c) = fmax fun j : Fin 63 =>
      if Vis j.val β.val c.val then k0_pay108 kb qb kk (ix3 ⟨j.val, by omega⟩ β c) else NEG := by
  pointwise [d628, k0_pay111]
  rw [neg_inf]
  simp only [pay110_apply]

theorem d637_apply (j : Fin 63) (β : Fin 8) (c : Fin 512) :
    d637 kb qb kk (ix3 j β c) = if Vis j.val β.val c.val then
      Ideal.exp2 (k0_pay108 kb qb kk (ix3 ⟨j.val, by omega⟩ β c) - d628 kb qb kk (ix2 β c)) else 0 := by
  pointwise [d637, k0_pay112]
  rw [v607_fold, vis_eq, sel_dec, pay110_apply]
  split_ifs with h
  · rfl
  · rfl

theorem d638_apply (β : Fin 8) (c : Fin 512) :
    d638 kb qb kk (ix2 β c) = ∑ j : Fin 63, d637 kb qb kk (ix3 j β c) := by
  pointwise [d638, k0_pay113]
  rfl

theorem d640_apply (β : Fin 8) (c : Fin 512) :
    d640 (ix2 β c) = BitVec.ofBool (decide (c.val / 64 < β.val)) := by
  rw [← dead_eq]
  pointwise [d640, k0_pay114]
  rw [v607_fold]

theorem pay3_apply (a : Vec Ideal S128x512 .f32) (l : Vec Ideal S1x512 .f32) (c : Fin 512) (x : Fin 128) :
    k0_pay3 a l (ix3 0 c x) = Ideal.div (a (ix2 x c)) (l (ix2 0 c)) := by
  pointwise [k0_pay3]

/-- The term each block of the diagonal tile gives the running maximum. -/
def top (β : Fin 8) (c : Fin 512) : EReal :=
  if β.val = c.val / 64 then d628 kb qb kk (ix2 β c) else if c.val / 64 < β.val then NEG else k0_pay108 kb qb kk (ix3 63 β c)

theorem pay115_apply (x : S8x512.Idx) : k0_pay115 (F := Ideal) x = NEG := rfl

section
variable (m : Vec Ideal S1x512 .f32)
local notation "M'" => k0_pay117 k0_pay102 (k0_pay109 kb qb kk) (d628 kb qb kk) d640 k0_pay115 m
theorem pay117_apply (c : Fin 512) :
    M' (ix2 0 c) = max (m (ix2 0 c)) (fmax fun β : Fin 8 => top kb qb kk β c) := by
  pointwise [k0_pay117, k0_pay116]
  simp only [neg_inf, own_eq, d640_apply, sel_dec, pay115_apply, pay109_apply]
  rfl
theorem pay119_apply (β : Fin 8) (c : Fin 512) :
    k0_pay119 k0_pay102 (k0_pay109 kb qb kk) (d628 kb qb kk) d640 k0_pay115 m (ix2 β c) = Ideal.exp2 (top kb qb kk β c - M' (ix2 0 c)) := by
  pointwise [k0_pay119, k0_pay116]
  simp only [own_eq, d640_apply, sel_dec, pay115_apply, pay109_apply]
  rfl
theorem pay121_apply (β : Fin 8) (c : Fin 512) :
    k0_pay121 k0_pay102 v607 (k0_pay109 kb qb kk) (d628 kb qb kk) (d638 kb qb kk) d640 k0_pay115 m (ix2 β c)
      = if c.val / 64 < β.val then 0 else if β.val = c.val / 64 then Ideal.exp2 (top kb qb kk β c - M' (ix2 0 c)) * d638 kb qb kk (ix2 β c)
        else Ideal.exp2 (top kb qb kk β c - M' (ix2 0 c)) := by
  pointwise [k0_pay121, k0_pay120]
  simp only [own_eq, dead_eq, sel_dec, pay119_apply]
/-- The weight of key row `r` in the diagonal tile. -/
def wD (r : Fin 512) (c : Fin 512) : EReal :=
  if h : r.val / 8 < 63 then
    if c.val / 64 < r.val % 8 then 0 else d637 kb qb kk (ix3 ⟨r.val / 8, h⟩ ⟨r.val % 8, by omega⟩ c)
      * (if r.val % 8 = c.val / 64 then Ideal.exp2 (top kb qb kk ⟨r.val % 8, by omega⟩ c - M' (ix2 0 c))
        else Ideal.div (Ideal.exp2 (top kb qb kk ⟨r.val % 8, by omega⟩ c - M' (ix2 0 c))) (d638 kb qb kk (ix2 ⟨r.val % 8, by omega⟩ c)))
  else 0
theorem pay122_apply (a : Vec Ideal S128x512 .f32) (x : Fin 128) (c : Fin 512) :
    k0_pay122 k0_pay102 v607 (k0_pay109 kb qb kk) (d628 kb qb kk) (d637 kb qb kk) (d638 kb qb kk) d640 k0_pay115 m vv a (ix2 x c)
      = a (ix2 x c) * Ideal.exp2 (m (ix2 0 c) - M' (ix2 0 c)) + ∑ r : Fin 512, vv (ix2 x r) * wD kb qb kk m r c := by
  pointwise [k0_pay122, k0_pay120, k0_pay118]
  simp only [own_eq, dead_eq, sel_dec, pay119_apply]
  refine Ideal.add_congr rfl (Finset.sum_congr rfl fun r _ => ?_)
  unfold wD
  split_ifs <;> first | rfl | simp
theorem pay123_apply (l : Vec Ideal S1x512 .f32) (c : Fin 512) :
    k0_pay123 k0_pay102 (k0_pay109 kb qb kk) (d628 kb qb kk) d640 k0_pay115 m l (ix2 0 c) = l (ix2 0 c) * Ideal.exp2 (m (ix2 0 c) - M' (ix2 0 c)) := by
  pointwise [k0_pay123, k0_pay118]
  rfl
end
theorem pay1_apply (l : FVec Ideal S1x512 .f32) (e : FVec Ideal S8x512 .f32) (c : Fin 512) :
    k0_pay1 e l (ix2 0 c) = l (ix2 0 c) + ∑ β : Fin 8, e (ix2 β c) := by
  pointwise [k0_pay1]
theorem pay2_apply (m : FVec Ideal S1x512 .f32) : k0_pay2 m = m := by
  funext j
  idx_vars j
  pointwise [k0_pay2]

/-! The preparation. -/
theorem pay16_apply (x : Vec Ideal S1x8x64 .f32) (y : Elt Ideal .f32) (β : Fin 8) (j : Fin 64) : k0_pay16 x y (ix2 β j)
    = x (ix3 0 β j) * (y * Ideal.ofBits .f32 0x3DB504F3#32 * (((Real.log 2)⁻¹ : ℝ) : EReal)) := by
  pointwise [k0_pay16]
  rfl
theorem pay91_apply (x : Vec Ideal S1x1x512 .f32) (y : Vec Ideal S1x128x512 .fp8e4m3) (d : Fin 128) (r : Fin 512) :
    k0_pay91 x y (ix2 d r) = y (ix3 0 d r) * x (ix3 0 0 r) := by
  pointwise [k0_pay91]
theorem pay92_apply (x : S1x512.Idx) : k0_pay92 (F := Ideal) x = NEG := by
  idx_vars x
  pointwise [k0_pay92]
theorem pay93_apply (x : S1x512.Idx) : k0_pay93 (F := Ideal) x = 0 := by
  idx_vars x
  pointwise [k0_pay93]
theorem pay94_apply (x : S128x512.Idx) : k0_pay94 (F := Ideal) x = 0 := by
  idx_vars x
  pointwise [k0_pay94]

end Cert.KernelIdeal.Payload
-- ==== Proof.Math.lean ====
/-
  The mathematics of one query column, over the extended reals: the running maximum, sum and unnormalised output after
  each group of keys, in closed form, and the weights they come to.
-/
module

public import Idealize.ShloMosaic.PureOps.Ideal
public import Mathlib.Analysis.SpecialFunctions.Pow.Real
public import Mathlib.Analysis.SpecialFunctions.Log.Basic
public import Mathlib.Tactic.FieldSimp
public import Mathlib.Tactic.Ring
public import Mathlib.Tactic.Positivity
public import Mathlib.Algebra.BigOperators.Fin

@[expose] public section

noncomputable section

namespace Cert.Landmark

open Idealize.ShloMosaic

/-- Finite sums of reals, read in the extended reals. -/
theorem coe_sum {ι : Type} (s : Finset ι) (f : ι → ℝ) : ∑ i ∈ s, ((f i : ℝ) : EReal) = ((∑ i ∈ s, f i : ℝ) : EReal) := by
  classical
  induction s using Finset.induction_on with
  | empty => simp
  | insert a s h ih => rw [Finset.sum_insert h, Finset.sum_insert h, ih, EReal.coe_add]

/-- A nonnegative real factor distributes over any finite sum of extended reals. -/
theorem sum_mul_coe {ι : Type} (s : Finset ι) (f : ι → EReal) {c : ℝ} (hc : 0 ≤ c) :
    (∑ i ∈ s, f i) * (c : EReal) = ∑ i ∈ s, f i * (c : EReal) := by
  classical
  induction s using Finset.induction_on with
  | empty => simp
  | insert a s h ih =>
    rw [Finset.sum_insert h, Finset.sum_insert h,
      EReal.right_distrib_of_nonneg_of_ne_top (EReal.coe_nonneg.mpr hc) (EReal.coe_ne_top c), ih]

theorem add_mul_coe (x y : EReal) {c : ℝ} (hc : 0 ≤ c) : (x + y) * (c : EReal) = x * (c : EReal) + y * (c : EReal) :=
  EReal.right_distrib_of_nonneg_of_ne_top (EReal.coe_nonneg.mpr hc) (EReal.coe_ne_top c) x y

/-- The maximum of finitely many reals, at least one, is real. -/
theorem fold_max_coe {ι : Type} (s : Finset ι) (hs : s.Nonempty) (f : ι → ℝ) :
    ∃ μ : ℝ, s.fold max (⊥ : EReal) (fun i => ((f i : ℝ) : EReal)) = (μ : EReal) := by
  classical
  induction hs using Finset.Nonempty.cons_induction with
  | singleton a => exact ⟨f a, by simp⟩
  | cons a s h hs ih =>
    obtain ⟨μ, hμ⟩ := ih
    refine ⟨max (f a) μ, ?_⟩
    rw [Finset.fold_cons, hμ]
    exact (EReal.coe_strictMono.monotone.map_max).symm

theorem fmax_coe {n : ℕ} (f : Fin (n + 1) → ℝ) :
    ∃ μ : ℝ, (Finset.univ : Finset (Fin (n + 1))).fold max (⊥ : EReal) (fun i => ((f i : ℝ) : EReal)) = (μ : EReal) :=
  fold_max_coe _ Finset.univ_nonempty f

/-- Two to a real power. -/
abbrev x2 (r : ℝ) : ℝ := (2 : ℝ) ^ r

theorem x2_pos (r : ℝ) : 0 < x2 r := Real.rpow_pos_of_pos (by norm_num) r
theorem x2_sub (a b : ℝ) : x2 (a - b) = x2 a * x2 (-b) := by
  unfold x2; rw [sub_eq_add_neg, Real.rpow_add (by norm_num)]
theorem x2_neg_mul (a : ℝ) : x2 a * x2 (-a) = 1 := by
  unfold x2; rw [← Real.rpow_add (by norm_num)]; simp

theorem exp2_sub (a b : ℝ) : Ideal.exp2 ((a : EReal) - (b : EReal)) = ((x2 a * x2 (-b) : ℝ) : EReal) := by
  rw [← EReal.coe_sub, ← x2_sub]; rfl

theorem div_real (a b : ℝ) (hb : b ≠ 0) : Ideal.div (a : EReal) (b : EReal) = ((a / b : ℝ) : EReal) := by
  rw [Ideal.div_coe hb, ← EReal.coe_mul, mul_one_div]

/-- The weight a past group gives one of its regular keys: the shift of its own block's maximum cancels. -/
theorem past_weight {n : ℕ} (t : Fin (n + 1) → ℝ) (ν e μ : ℝ) (j : Fin (n + 1)) :
    Ideal.exp2 ((t j : EReal) - (ν : EReal)) * Ideal.div (Ideal.exp2 ((e : EReal) - (μ : EReal)))
        (∑ i, Ideal.exp2 ((t i : EReal) - (ν : EReal)))
      = ((x2 (t j) * x2 e / (∑ i, x2 (t i)) * x2 (-μ) : ℝ) : EReal) := by
  simp only [exp2_sub]
  have hz : (∑ i, x2 (t i)) ≠ 0 := (Finset.sum_pos (fun i _ => x2_pos _) Finset.univ_nonempty).ne'
  have hν := (x2_pos (-ν)).ne'
  rw [coe_sum, ← Finset.sum_mul, div_real _ _ (mul_ne_zero hz hν), ← EReal.coe_mul]
  congr 1
  field_simp

/-- One step of the running quantities: sum and output, rescaled to the new maximum. -/
theorem step_l (L D μ μ' : ℝ) :
    ((L * x2 (-μ) : ℝ) : EReal) * Ideal.exp2 ((μ : EReal) - (μ' : EReal)) + ((D * x2 (-μ') : ℝ) : EReal)
      = (((L + D) * x2 (-μ') : ℝ) : EReal) := by
  rw [exp2_sub, ← EReal.coe_mul, ← EReal.coe_add]
  congr 1
  have h := x2_neg_mul μ
  linear_combination L * x2 (-μ') * h

theorem step_a {n : ℕ} (A : EReal) (V : Fin n → EReal) (W : Fin n → ℝ) (μ μ' : ℝ) :
    A * ((x2 (-μ) : ℝ) : EReal) * Ideal.exp2 ((μ : EReal) - (μ' : EReal)) + ∑ r, V r * ((W r * x2 (-μ') : ℝ) : EReal)
      = (A + ∑ r, V r * ((W r : ℝ) : EReal)) * ((x2 (-μ') : ℝ) : EReal) := by
  rw [exp2_sub, add_mul_coe _ _ (x2_pos _).le, sum_mul_coe _ _ (x2_pos _).le, mul_assoc, ← EReal.coe_mul,
    show x2 (-μ) * (x2 μ * x2 (-μ')) = x2 (-μ') by linear_combination x2 (-μ') * x2_neg_mul μ]
  simp only [mul_assoc, EReal.coe_mul]

/-- The final quotient. -/
theorem quot (A : EReal) (L μ : ℝ) (hL : 0 < L) :
    Ideal.div (A * ((x2 (-μ) : ℝ) : EReal)) ((L * x2 (-μ) : ℝ) : EReal) = A * ((L⁻¹ : ℝ) : EReal) := by
  have hμ := (x2_pos (-μ)).ne'
  rw [Ideal.div_coe (mul_ne_zero hL.ne' hμ), mul_assoc, ← EReal.coe_mul]
  congr 2
  field_simp

/-! ## The weights

`E b j` is the exponential of the score of place `j` of block `b`; the query sits at place `o` of block `q`. -/

section
variable (E : ℕ → ℕ → ℝ) (q o : ℕ)

/-- The unnormalised weight of a key: inside a past block the block's own softmax over its regular keys, times the
    landmark's exponential; in the query's block its exponential, up to the query; else none. -/
def Wt (b j : ℕ) : ℝ :=
  if j < 63 then
    if b < q then E b j * E b 63 / ∑ i : Fin 63, E b i.val
    else if b = q ∧ j ≤ o then E b j else 0
  else 0

/-- What a block adds to the outer softmax's denominator. -/
def Lb (b : ℕ) : ℝ :=
  if b < q then E b 63 else if b = q then ∑ j : Fin 63, (if j.val ≤ o then E b j.val else 0) else 0
end

/-- Rows `8 j + β` of a group are its places `j` and blocks `β`. -/
theorem sum_rows (f : ℕ → ℕ → EReal) : ∑ r : Fin 512, f (r.val % 8) (r.val / 8) = ∑ β : Fin 8, ∑ j : Fin 64, f β.val j.val := by
  rw [Finset.sum_comm, ← Finset.sum_product', Finset.univ_product_univ]
  refine (Fintype.sum_equiv (finProdFinEquiv (m := 64) (n := 8)) _ _ fun x => ?_).symm
  have h1 : (finProdFinEquiv (m := 64) (n := 8) x).val = x.2.val + 8 * x.1.val := rfl
  rw [h1]
  have := x.2.isLt
  rw [show (x.2.val + 8 * x.1.val) % 8 = x.2.val by omega, show (x.2.val + 8 * x.1.val) / 8 = x.1.val by omega]

end Cert.Landmark
-- ==== Proof.Column.lean ====
/-
  One query column through the kernel body, over the extended reals: after each past group, and after the diagonal
  tile, the three running quantities are the sums of the closed-form weights, rescaled by the running maximum.
-/
module

public import proofs.«01_k».proof.Proof.Payload
public import proofs.«01_k».proof.Proof.Math

@[expose] public section

set_option maxRecDepth 16384

noncomputable section

namespace Cert.KernelIdeal.Column

open Cert.KernelIdeal Cert.KernelIdeal.Gen Cert.KernelIdeal.Body Cert.KernelIdeal.Payload Cert.Landmark
open Idealize.ShloMosaic

/-- The exponential of a base-two score. -/
abbrev EE (s : ℕ → ℕ → ℝ) : ℕ → ℕ → ℝ := fun b j => x2 (s b j)

/-- What a column holds: a running maximum `μ`, and the sums `L` and `A` rescaled by it. -/
def Holds (st : State Ideal) (c : Fin 512) (d : Fin 128) (L : ℝ) (A : EReal) : Prop :=
  ∃ μ : ℝ, st.m (ix2 0 c) = (μ : EReal) ∧ st.l (ix2 0 c) = ((L * x2 (-μ) : ℝ) : EReal) ∧ st.a (ix2 d c) = A * ((x2 (-μ) : ℝ) : EReal)

/-- What group `g` adds to the denominator. -/
def Lg (s : ℕ → ℕ → ℝ) (q o g : ℕ) : ℝ := ∑ β : Fin 8, Lb (EE s) q o (8 * g + β.val)

/-- What group `g` adds to the output. -/
def Ag (s : ℕ → ℕ → ℝ) (V : ℕ → ℕ → EReal) (q o g : ℕ) : EReal :=
  ∑ r : Fin 512, V (8 * g + r.val % 8) (r.val / 8) * ((Wt (EE s) q o (8 * g + r.val % 8) (r.val / 8) : ℝ) : EReal)

theorem max_coe (a b : ℝ) : max (a : EReal) (b : EReal) = ((max a b : ℝ) : EReal) := (EReal.coe_strictMono.monotone.map_max).symm

variable {kb qb : Vec Ideal S1x512x128 .fp8e4m3} {kk : Vec Ideal S512x128 .f32} {vv : Vec Ideal S128x512 .bf16}
  {κ : Fin 512 → EReal} {s : ℕ → ℕ → ℝ} {V : ℕ → ℕ → EReal} {g : ℕ} {c : Fin 512} {d : Fin 128}

/-- A past group. -/
theorem step_col (hk : ∀ r x, kk (ix2 r x) = κ r) (ht : ∀ (j : Fin 64) (β : Fin 8), T kb qb κ j β c = ((s (8 * g + β.val) j.val : ℝ) : EReal))
    (hv : ∀ r : Fin 512, vv (ix2 d r) = V (8 * g + r.val % 8) (r.val / 8)) (q o : ℕ) (hg : 8 * g + 8 ≤ q)
    {st : State Ideal} {L : ℝ} {A : EReal} (h : Holds st c d L A) :
    Holds (stepSt qb kb kk vv st) c d (L + Lg s q o g) (A + Ag s V q o g) := by
  obtain ⟨μ, hm, hl, ha⟩ := h
  have h5 : ∀ β : Fin 8, k0_pay5 kb qb kk (ix2 β c) = ((s (8 * g + β.val) 63 : ℝ) : EReal) := fun β => by
    rw [pay5_apply, pay4_apply kb qb kk hk, ht]; rfl
  obtain ⟨μm, hμm⟩ := fmax_coe (fun β : Fin 8 => s (8 * g + β.val) 63)
  have h6 : k0_pay6 kb qb kk st.m (ix2 0 c) = ((max μ μm : ℝ) : EReal) := by
    rw [pay6_apply]
    simp only [h5]
    rw [fmax, hμm, hm, max_coe]
  have h8 : ∀ β : Fin 8, k0_pay8 kb qb kk st.m (ix2 β c) = ((x2 (s (8 * g + β.val) 63) * x2 (-max μ μm) : ℝ) : EReal) := fun β => by
    rw [pay8_apply, h5, h6, exp2_sub]
  have h7 : k0_pay7 kb qb kk st.m (ix2 0 c) = Ideal.exp2 ((μ : EReal) - ((max μ μm : ℝ) : EReal)) := by
    rw [pay7_apply, h6, hm]
  refine ⟨max μ μm, ?_, ?_, ?_⟩
  · show k0_pay97 (k0_pay6 kb qb kk st.m) (ix2 0 c) = _
    rw [pay97_apply, h6]
  · show k0_pay96 (k0_pay7 kb qb kk st.m) (k0_pay8 kb qb kk st.m) st.l (ix2 0 c) = _
    rw [pay96_apply, h7, hl]
    simp only [h8]
    rw [coe_sum, ← Finset.sum_mul, step_l]
    have hL : ∑ β : Fin 8, x2 (s (8 * g + β.val) 63) = Lg s q o g := by
      unfold Lg
      refine Finset.sum_congr rfl fun β _ => ?_
      have hb := β.isLt
      have n1 : 8 * g + β.val < q := by omega
      unfold Lb
      rw [if_pos n1]
    rw [hL]
  · show k0_pay95 (k0_pay7 kb qb kk st.m) (k0_pay9 kb qb kk st.m) vv (constant S128x512 .f32 0x00000000#32) st.a (ix2 d c) = _
    rw [pay95_apply, h7, ha]
    have hw : ∀ r : Fin 512, k0_pay9 kb qb kk st.m (ix2 r c)
        = ((Wt (EE s) q o (8 * g + r.val % 8) (r.val / 8) * x2 (-max μ μm) : ℝ) : EReal) := fun r => by
      rw [pay9_apply]
      unfold Wt
      by_cases hr : r.val / 8 < 63
      · rw [dif_pos hr, if_pos hr, if_pos (by omega)]
        simp only [pay4_apply kb qb kk hk, ht]
        obtain ⟨ν, hν⟩ := fmax_coe (fun j : Fin 63 => s (8 * g + r.val % 8) j.val)
        rw [fmax, hν, pay8_apply, h5, h6]
        exact past_weight (fun j : Fin 63 => s (8 * g + r.val % 8) j.val) ν _ _ ⟨r.val / 8, hr⟩
      · rw [dif_neg hr, if_neg hr]; simp
    simp only [hw, hv]
    exact step_a _ _ _ _ _

/-- The stand-in for −∞ is a real number. -/
theorem NEG_real : ∃ r : ℝ, NEG = (r : EReal) := by
  unfold NEG
  simp only [Ideal.ofBits, Ideal.ieee]
  norm_num
  exact ⟨_, rfl⟩

/-- The diagonal tile: the query sits in block `q = 8 g + c / 64` of the group. -/
theorem last_col (hk : ∀ r x, kk (ix2 r x) = κ r) (ht : ∀ (j : Fin 64) (β : Fin 8), T kb qb κ j β c = ((s (8 * g + β.val) j.val : ℝ) : EReal))
    (hv : ∀ r : Fin 512, vv (ix2 d r) = V (8 * g + r.val % 8) (r.val / 8)) (q o : ℕ) (hq : q = 8 * g + c.val / 64) (ho : o = c.val % 64)
    {st : State Ideal} {L : ℝ} {A : EReal} (h : Holds st c d L A) :
    Holds (lastSt qb kb kk vv st) c d (L + Lg s q o g) (A + Ag s V q o g) := by
  obtain ⟨μ, hm, hl, ha⟩ := h
  obtain ⟨N, hN⟩ := NEG_real
  have h108 : ∀ (j : Fin 64) (β : Fin 8), k0_pay108 kb qb kk (ix3 j β c) = ((s (8 * g + β.val) j.val : ℝ) : EReal) := fun j β => by
    rw [pay108_apply kb qb kk hk, ht]
  have h110 : ∀ (j : Fin 63) (β : Fin 8), (if Vis j.val β.val c.val then k0_pay108 kb qb kk (ix3 ⟨j.val, by omega⟩ β c) else NEG)
      = (((if Vis j.val β.val c.val then s (8 * g + β.val) j.val else N : ℝ)) : EReal) := fun j β => by
    split_ifs
    · rw [h108]
    · exact hN
  have h628 : ∀ β : Fin 8, ∃ ν : ℝ, d628 kb qb kk (ix2 β c) = (ν : EReal) := fun β => by
    rw [d628_apply]
    simp only [h110]
    exact fmax_coe (fun j : Fin 63 => (if Vis j.val β.val c.val then s (8 * g + β.val) j.val else N : ℝ))
  choose ν hν using h628
  have h637 : ∀ (j : Fin 63) (β : Fin 8), d637 kb qb kk (ix3 j β c)
      = (((if Vis j.val β.val c.val then x2 (s (8 * g + β.val) j.val) else 0) * x2 (-ν β) : ℝ) : EReal) := fun j β => by
    rw [d637_apply, hν, h108]
    split_ifs
    · rw [exp2_sub]
    · simp
  have h638 : ∀ β : Fin 8, d638 kb qb kk (ix2 β c)
      = (((∑ j : Fin 63, if Vis j.val β.val c.val then x2 (s (8 * g + β.val) j.val) else 0) * x2 (-ν β) : ℝ) : EReal) := fun β => by
    rw [d638_apply]
    simp only [h637]
    rw [coe_sum, ← Finset.sum_mul]
  have htop : ∀ β : Fin 8, top kb qb kk β c
      = (((if β.val = c.val / 64 then ν β else if c.val / 64 < β.val then N else s (8 * g + β.val) 63 : ℝ)) : EReal) := fun β => by
    unfold top
    split_ifs
    · exact hν β
    · exact hN
    · exact h108 63 β
  obtain ⟨μm, hμm⟩ := fmax_coe (fun β : Fin 8 => (if β.val = c.val / 64 then ν β else if c.val / 64 < β.val then N else s (8 * g + β.val) 63 : ℝ))
  have h117 : k0_pay117 k0_pay102 (k0_pay109 kb qb kk) (d628 kb qb kk) d640 k0_pay115 st.m (ix2 0 c) = ((max μ μm : ℝ) : EReal) := by
    rw [pay117_apply]
    simp only [htop]
    rw [fmax, hμm, hm, max_coe]
  have he : ∀ β : Fin 8, β.val ≤ c.val / 64 → Ideal.exp2 (top kb qb kk β c - k0_pay117 k0_pay102 (k0_pay109 kb qb kk) (d628 kb qb kk) d640 k0_pay115 st.m (ix2 0 c))
      = (((if β.val = c.val / 64 then x2 (ν β) else x2 (s (8 * g + β.val) 63)) * x2 (-max μ μm) : ℝ) : EReal) := fun β hβ => by
    rw [h117, htop, exp2_sub]
    split_ifs
    · rfl
    · omega
    · rfl
  refine ⟨max μ μm, ?_, ?_, ?_⟩
  · show k0_pay2 (k0_pay117 k0_pay102 (k0_pay109 kb qb kk) (d628 kb qb kk) d640 k0_pay115 st.m) (ix2 0 c) = _
    rw [pay2_apply, h117]
  · show k0_pay1 _ _ (ix2 0 c) = _
    rw [pay1_apply, pay123_apply, h117, hl, hm]
    have hterm : ∀ β : Fin 8, k0_pay121 k0_pay102 v607 (k0_pay109 kb qb kk) (d628 kb qb kk) (d638 kb qb kk) d640 k0_pay115 st.m (ix2 β c)
        = ((Lb (EE s) q o (8 * g + β.val) * x2 (-max μ μm) : ℝ) : EReal) := fun β => by
      rw [pay121_apply]
      unfold Lb
      by_cases h1 : c.val / 64 < β.val
      · rw [if_pos h1, if_neg (by omega), if_neg (by omega)]; simp
      · by_cases h2 : β.val = c.val / 64
        · rw [if_neg h1, if_pos h2, he β (by omega), h638, if_pos h2, if_neg (by omega), if_pos (by omega), ← EReal.coe_mul]
          congr 1
          have hs : (∑ j : Fin 63, if Vis j.val β.val c.val then x2 (s (8 * g + β.val) j.val) else 0)
              = ∑ j : Fin 63, if j.val ≤ o then EE s (8 * g + β.val) j.val else 0 := by
            refine Finset.sum_congr rfl fun j _ => ?_
            simp [Vis, h2, ho]
          rw [hs]
          linear_combination (∑ j : Fin 63, if j.val ≤ o then EE s (8 * g + β.val) j.val else 0) * x2 (-max μ μm) * x2_neg_mul (ν β)
        · rw [if_neg h1, if_neg h2, he β (by omega), if_neg h2, if_pos (by omega)]
    simp only [hterm]
    rw [coe_sum, ← Finset.sum_mul, step_l]
    rfl
  · show k0_pay122 k0_pay102 v607 (k0_pay109 kb qb kk) (d628 kb qb kk) (d637 kb qb kk) (d638 kb qb kk) d640 k0_pay115 st.m vv st.a (ix2 d c) = _
    rw [pay122_apply, h117, ha, hm]
    have hw : ∀ r : Fin 512, wD kb qb kk st.m r c
        = ((Wt (EE s) q o (8 * g + r.val % 8) (r.val / 8) * x2 (-max μ μm) : ℝ) : EReal) := fun r => by
      unfold wD Wt
      by_cases hr : r.val / 8 < 63
      · rw [dif_pos hr, if_pos hr]
        by_cases h1 : c.val / 64 < r.val % 8
        · have n1 : ¬ 8 * g + r.val % 8 < q := by omega
          have n2 : ¬ (8 * g + r.val % 8 = q ∧ r.val / 8 ≤ o) := by omega
          rw [if_pos h1, if_neg n1, if_neg n2]; simp
        · by_cases h2 : r.val % 8 = c.val / 64
          · have n1 : ¬ 8 * g + r.val % 8 < q := by omega
            rw [if_neg h1, if_pos h2, he ⟨r.val % 8, by omega⟩ (by show r.val % 8 ≤ _; omega), h637, if_neg n1, if_pos h2, ← EReal.coe_mul]
            congr 1
            by_cases h3 : r.val / 8 ≤ c.val % 64
            · have n2 : 8 * g + r.val % 8 = q ∧ r.val / 8 ≤ o := by omega
              have n3 : Vis (r.val / 8) (r.val % 8) c.val := Or.inr ⟨h2, h3⟩
              rw [if_pos n2, if_pos n3]
              linear_combination x2 (s (8 * g + r.val % 8) (r.val / 8)) * x2 (-max μ μm) * x2_neg_mul (ν ⟨r.val % 8, by omega⟩)
            · have n2 : ¬ (8 * g + r.val % 8 = q ∧ r.val / 8 ≤ o) := by omega
              have n3 : ¬ Vis (r.val / 8) (r.val % 8) c.val := by rintro (h | h) <;> omega
              rw [if_neg n2, if_neg n3]; ring
          · have n1 : 8 * g + r.val % 8 < q := by omega
            have hvis : ∀ j : ℕ, Vis j (r.val % 8) c.val := fun j => Or.inl (by omega)
            have hz : (∑ j : Fin 63, x2 (s (8 * g + r.val % 8) j.val)) ≠ 0 :=
              (Finset.sum_pos (fun i _ => x2_pos _) Finset.univ_nonempty).ne'
            have hn := (x2_pos (-ν ⟨r.val % 8, by omega⟩)).ne'
            have hb : ∀ j : Fin 63, (if Vis j.val (r.val % 8) c.val then x2 (s (8 * g + r.val % 8) j.val) else 0) = x2 (s (8 * g + r.val % 8) j.val) :=
              fun j => if_pos (hvis _)
            rw [if_neg h1, if_neg h2, he ⟨r.val % 8, by omega⟩ (by show r.val % 8 ≤ _; omega), h637, h638, if_pos n1, if_neg h2]
            simp only [hb]
            rw [div_real _ _ (mul_ne_zero hz hn), ← EReal.coe_mul, if_pos (hvis _)]
            congr 1
            show _ = x2 (s (8 * g + r.val % 8) (r.val / 8)) * x2 (s (8 * g + r.val % 8) 63) / (∑ j : Fin 63, x2 (s (8 * g + r.val % 8) j.val)) * _
            field_simp
      · rw [dif_neg hr, if_neg hr]; simp
    simp only [hw, hv]
    exact step_a _ _ _ _ _

end Cert.KernelIdeal.Column
-- ==== Proof.Arr.lean ====
/-
  What the kernel's blocks hold, as entries of the argument arrays, and what its result array ends holding.
-/
module

public import proofs.«01_k».proof.Proof.Payload
public import proofs.«01_k».proof.Proof.Run
public import Idealize.ShloMosaic.Lib.Claim
public import Idealize.ShloMosaic.Lib.Pipeline.Value

@[expose] public section

set_option maxRecDepth 16384

noncomputable section

namespace Cert.KernelIdeal.Arr

open Cert.KernelIdeal Cert.KernelIdeal.Gen Cert.KernelIdeal.Body Cert.KernelIdeal.Payload
open Idealize.ShloMosaic Idealize.ShloMosaic.TcCoe Idealize.SL.Sem
open Idealize.ShloMosaic.Pipeline (Dat)

variable (m : (ℓ : Loc nD τ sig) → Buf (Elt Ideal) ℓ) (ρ : Dev nD → PrngReg) (c : Dev nD)

/-! ## The arguments -/

abbrev A0 : Vec Ideal S2x16384x56x128 .f32 := m ((c.tc : Thread nD τ).loc main_arg0)
abbrev A1 : Vec Ideal S2x56 .f32 := m ((c.tc : Thread nD τ).loc main_arg1)
abbrev A2 : Vec Ideal S2x16384x56x128 .f32 := m ((c.tc : Thread nD τ).loc main_arg2)
abbrev A3 : Vec Ideal S2x16384x56 .f32 := m ((c.tc : Thread nD τ).loc main_arg3)
abbrev A4 : Vec Ideal S2x16384x56x128 .f32 := m ((c.tc : Thread nD τ).loc main_arg4)
abbrev A5 : Vec Ideal S2x16384x56 .f32 := m ((c.tc : Thread nD τ).loc main_arg5)

/-! ## The arrays the host prepares -/

theorem V_v4 (H : Fin 112) (p : Fin 16384) (d : Fin 128) : (V m c main_v4 : Vec Ideal S112x16384x128 .fp8e4m3) (ix3 H p d)
    = A0 m c (ix4 ⟨H.val / 56, by omega⟩ p ⟨H.val % 56, by omega⟩ d) := by
  simp only [V, hostOps0]
  after_results_simp
  pointwise

theorem V_v7 (H : Fin 112) (r : Fin 16384) (d : Fin 128) : (V m c main_v7 : Vec Ideal S112x16384x128 .fp8e4m3) (ix3 H r d)
    = A2 m c (ix4 ⟨H.val / 56, by omega⟩ ⟨r.val / 512 * 512 + r.val % 8 * 64 + r.val / 8 % 64, by omega⟩ ⟨H.val % 56, by omega⟩ d) := by
  simp only [V, hostOps0]
  after_results_simp
  pointwise

theorem V_v10 (H : Fin 112) (d : Fin 128) (r : Fin 16384) : (V m c main_v10 : Vec Ideal S112x128x16384 .fp8e4m3) (ix3 H d r)
    = A4 m c (ix4 ⟨H.val / 56, by omega⟩ ⟨r.val / 512 * 512 + r.val % 8 * 64 + r.val / 8 % 64, by omega⟩ ⟨H.val % 56, by omega⟩ d) := by
  simp only [V, hostOps0]
  after_results_simp
  pointwise

theorem V_v12 (H : Fin 112) (b : Fin 256) (j : Fin 64) : (V m c main_v12 : Vec Ideal S112x256x64 .f32) (ix3 H b j)
    = A3 m c (ix3 ⟨H.val / 56, by omega⟩ ⟨b.val * 64 + j.val, by omega⟩ ⟨H.val % 56, by omega⟩) := by
  simp only [V, hostOps0]
  after_results_simp
  pointwise

theorem V_v15 (H : Fin 112) (g : Fin 32) (r : Fin 512) : (V m c main_v15 : Vec Ideal S112x32x512 .f32) (ix3 H g r)
    = A5 m c (ix3 ⟨H.val / 56, by omega⟩ ⟨g.val * 512 + r.val % 8 * 64 + r.val / 8, by omega⟩ ⟨H.val % 56, by omega⟩) := by
  simp only [V, hostOps0]
  after_results_simp
  pointwise

theorem V_v16 (H : Fin 112) : (V m c main_v16 : Vec Ideal S112 .f32) (ix1 H) = A1 m c (ix2 ⟨H.val / 56, by omega⟩ ⟨H.val % 56, by omega⟩) := by
  simp only [V, hostOps0]
  after_results_simp
  pointwise

/-! ## The windows' blocks -/

theorem index0 : ∀ t : Fin grid0.N, win0_0.index t 0 = 0 := by decide +kernel
theorem index1 : ∀ t : Fin grid0.N, win0_1.index t 0 = t.val / 32 ∧ win0_1.index t 1 = t.val % 32 ∧ win0_1.index t 2 = 0 := by decide +kernel
theorem index2 : ∀ t : Fin grid0.N, win0_2.index t 0 = t.val / 32 ∧ win0_2.index t 1 = 0 ∧ win0_2.index t 2 = 0 := by decide +kernel
theorem index3 : ∀ t : Fin grid0.N, win0_3.index t 0 = t.val / 32 ∧ win0_3.index t 1 = 0 ∧ win0_3.index t 2 = 0 := by decide +kernel
theorem index4 : ∀ t : Fin grid0.N, win0_4.index t 0 = t.val / 32 ∧ win0_4.index t 1 = 0 ∧ win0_4.index t 2 = 0 := by decide +kernel
theorem index5 : ∀ t : Fin grid0.N, win0_5.index t 0 = t.val / 32 ∧ win0_5.index t 1 = 0 ∧ win0_5.index t 2 = 0 := by decide +kernel
theorem index6 : ∀ t : Fin grid0.N, win0_6.index t 0 = t.val / 1792 ∧ win0_6.index t 1 = t.val % 32 ∧ win0_6.index t 2 = t.val / 32 % 56 := by decide +kernel

/-- The head of a grid point. -/
def hd (t : Fin cfg0.N) : Fin 112 := ⟨t.val / 32, by have h : t.val < 3584 := N0 ▸ t.isLt; omega⟩

theorem iblk0 (t : Fin cfg0.N) (H : Fin 112) : (iblk m c 0 t : Vec Ideal S112 .f32) (ix1 H) = (V m c main_v16 : Vec Ideal S112 .f32) (ix1 H) := by
  unfold iblk
  rw [View.read_apply]
  show V m c main_v16 _ = V m c main_v16 _
  congr 1
  funext a
  apply Fin.ext
  match a with
  | ⟨0, _⟩ => show win0_0.index t 0 * 112 + 1 * H.val = H.val; rw [index0]; omega

theorem iblk1 (t : Fin cfg0.N) (cc : Fin 512) (d : Fin 128) : (iblk m c 1 t : Vec Ideal S1x512x128 .fp8e4m3) (ix3 0 cc d)
    = (V m c main_v4 : Vec Ideal S112x16384x128 .fp8e4m3) (ix3 (hd t) ⟨t.val % 32 * 512 + cc.val, by omega⟩ d) := by
  unfold iblk
  rw [View.read_apply]
  show V m c main_v4 _ = V m c main_v4 _
  congr 1
  funext a
  apply Fin.ext
  obtain ⟨h0, h1, h2⟩ := index1 t
  match a with
  | ⟨0, _⟩ => show win0_1.index t 0 * 1 + 1 * 0 = t.val / 32; rw [h0]; omega
  | ⟨1, _⟩ => show win0_1.index t 1 * 512 + 1 * cc.val = _; rw [h1, Nat.one_mul]; rfl
  | ⟨2, _⟩ => show win0_1.index t 2 * 128 + 1 * d.val = _; rw [h2, Nat.one_mul, Nat.zero_mul, Nat.zero_add]; rfl

theorem iblk2 (t : Fin cfg0.N) (r : Fin 16384) (d : Fin 128) : (iblk m c 2 t : Vec Ideal S1x16384x128 .fp8e4m3) (ix3 0 r d)
    = (V m c main_v7 : Vec Ideal S112x16384x128 .fp8e4m3) (ix3 (hd t) r d) := by
  unfold iblk
  rw [View.read_apply]
  show V m c main_v7 _ = V m c main_v7 _
  congr 1
  funext a
  apply Fin.ext
  obtain ⟨h0, h1, h2⟩ := index2 t
  match a with
  | ⟨0, _⟩ => show win0_2.index t 0 * 1 + 1 * 0 = t.val / 32; rw [h0]; omega
  | ⟨1, _⟩ => show win0_2.index t 1 * 16384 + 1 * r.val = _; rw [h1, Nat.one_mul, Nat.zero_mul, Nat.zero_add]; rfl
  | ⟨2, _⟩ => show win0_2.index t 2 * 128 + 1 * d.val = _; rw [h2, Nat.one_mul, Nat.zero_mul, Nat.zero_add]; rfl

theorem iblk3 (t : Fin cfg0.N) (d : Fin 128) (r : Fin 16384) : (iblk m c 3 t : Vec Ideal S1x128x16384 .fp8e4m3) (ix3 0 d r)
    = (V m c main_v10 : Vec Ideal S112x128x16384 .fp8e4m3) (ix3 (hd t) d r) := by
  unfold iblk
  rw [View.read_apply]
  show V m c main_v10 _ = V m c main_v10 _
  congr 1
  funext a
  apply Fin.ext
  obtain ⟨h0, h1, h2⟩ := index3 t
  match a with
  | ⟨0, _⟩ => show win0_3.index t 0 * 1 + 1 * 0 = t.val / 32; rw [h0]; omega
  | ⟨1, _⟩ => show win0_3.index t 1 * 128 + 1 * d.val = _; rw [h1, Nat.one_mul, Nat.zero_mul, Nat.zero_add]; rfl
  | ⟨2, _⟩ => show win0_3.index t 2 * 16384 + 1 * r.val = _; rw [h2, Nat.one_mul, Nat.zero_mul, Nat.zero_add]; rfl

theorem iblk4 (t : Fin cfg0.N) (b : Fin 256) (j : Fin 64) : (iblk m c 4 t : Vec Ideal S1x256x64 .f32) (ix3 0 b j)
    = (V m c main_v12 : Vec Ideal S112x256x64 .f32) (ix3 (hd t) b j) := by
  unfold iblk
  rw [View.read_apply]
  show V m c main_v12 _ = V m c main_v12 _
  congr 1
  funext a
  apply Fin.ext
  obtain ⟨h0, h1, h2⟩ := index4 t
  match a with
  | ⟨0, _⟩ => show win0_4.index t 0 * 1 + 1 * 0 = t.val / 32; rw [h0]; omega
  | ⟨1, _⟩ => show win0_4.index t 1 * 256 + 1 * b.val = _; rw [h1, Nat.one_mul, Nat.zero_mul, Nat.zero_add]; rfl
  | ⟨2, _⟩ => show win0_4.index t 2 * 64 + 1 * j.val = _; rw [h2, Nat.one_mul, Nat.zero_mul, Nat.zero_add]; rfl

theorem iblk5 (t : Fin cfg0.N) (g : Fin 32) (r : Fin 512) : (iblk m c 5 t : Vec Ideal S1x32x512 .f32) (ix3 0 g r)
    = (V m c main_v15 : Vec Ideal S112x32x512 .f32) (ix3 (hd t) g r) := by
  unfold iblk
  rw [View.read_apply]
  show V m c main_v15 _ = V m c main_v15 _
  congr 1
  funext a
  apply Fin.ext
  obtain ⟨h0, h1, h2⟩ := index5 t
  match a with
  | ⟨0, _⟩ => show win0_5.index t 0 * 1 + 1 * 0 = t.val / 32; rw [h0]; omega
  | ⟨1, _⟩ => show win0_5.index t 1 * 32 + 1 * g.val = _; rw [h1, Nat.one_mul, Nat.zero_mul, Nat.zero_add]; rfl
  | ⟨2, _⟩ => show win0_5.index t 2 * 512 + 1 * r.val = _; rw [h2, Nat.one_mul, Nat.zero_mul, Nat.zero_add]; rfl

/-! ## Key scales and values of a group -/

theorem off1_eq (i : grid0.Coords) : k0_off1 i = ![0, 8 * (i 1).val, 0] := by
  have h : ∀ k : Fin 32, (Scalar.indexCast (Scalar.muli (BitVec.ofNat 32 k.val) 8#32)).toNat = 8 * k.val := by decide +kernel
  exact congrArg (fun n => ![0, n, 0]) (h (i 1))
theorem off2_eq (i : grid0.Coords) : k0_off2 i = ![(i 0).val] := by
  have h : ∀ k : Fin 112, (Scalar.indexCast (BitVec.ofNat 32 k.val)).toNat = k.val := by decide +kernel
  exact congrArg (fun n => ![n]) (h (i 0))
theorem off4_eq (i : grid0.Coords) : k0_off4 i = ![0, (i 1).val, 0] := by
  have h : ∀ k : Fin 32, (Scalar.indexCast (BitVec.ofNat 32 k.val)).toNat = k.val := by decide +kernel
  exact congrArg (fun n => ![0, n, 0]) (h (i 1))
theorem off5_eq (i : grid0.Coords) : k0_off5 i = ![0, 0, 512 * (i 1).val] := by
  have h : ∀ k : Fin 32, (Scalar.indexCast (Scalar.muli (BitVec.ofNat 32 k.val) 512#32)).toNat = 512 * k.val := by decide +kernel
  exact congrArg (fun n => ![0, 0, n]) (h (i 1))

/-- The scaled key scale of block `β`, place `j` of the tile's group. -/
theorem ksc_apply (t : Fin cfg0.N) (β : Fin 8) (j : Fin 64) : kscOf (grid0.coords t) (iblk m c 0 t) (iblk m c 4 t) (ix2 β j)
    = A3 m c (ix3 ⟨(hd t).val / 56, by omega⟩ ⟨(8 * (t.val % 32) + β.val) * 64 + j.val, by omega⟩ ⟨(hd t).val % 56, by omega⟩)
      * (A1 m c (ix2 ⟨(hd t).val / 56, by omega⟩ ⟨(hd t).val % 56, by omega⟩) * Ideal.ofBits .f32 0x3DB504F3#32 * (((Real.log 2)⁻¹ : ℝ) : EReal)) := by
  unfold kscOf
  rw [pay16_apply]
  have e1 : View.ld (iblk m c 4 t : Vec Ideal S1x256x64 .f32) (Rect.unit (s := S1x256x64) (k0_off1 (grid0.coords t)) S1x8x64.size (k0_off1_inb (grid0.coords t))) (ix3 0 β j)
      = (iblk m c 4 t : Vec Ideal S1x256x64 .f32) (ix3 0 ⟨8 * (t.val % 32) + β.val, by omega⟩ j) := by
    refine congrArg (iblk m c 4 t : Vec Ideal S1x256x64 .f32) (funext fun a => Fin.ext ?_)
    have ho := off1_eq (grid0.coords t)
    rw [coords1] at ho
    match a with
    | ⟨0, _⟩ => show k0_off1 (grid0.coords t) 0 + 1 * 0 = 0; rw [ho]; rfl
    | ⟨1, _⟩ => show k0_off1 (grid0.coords t) 1 + 1 * β.val = _; rw [ho, Nat.one_mul]; rfl
    | ⟨2, _⟩ => show k0_off1 (grid0.coords t) 2 + 1 * j.val = _; rw [ho, Nat.one_mul]; exact Nat.zero_add _
  have e2 : View.ld (iblk m c 0 t : Vec Ideal S112 .f32) (Rect.unit (s := S112) (k0_off2 (grid0.coords t)) S1.size (k0_off2_inb (grid0.coords t))) (Shape.Idx.first (numel1_S1.symm ▸ Nat.one_pos))
      = (iblk m c 0 t : Vec Ideal S112 .f32) (ix1 (hd t)) := by
    refine congrArg (iblk m c 0 t : Vec Ideal S112 .f32) (funext fun a => Fin.ext ?_)
    have ho := off2_eq (grid0.coords t)
    rw [coords0] at ho
    match a with
    | ⟨0, _⟩ => show k0_off2 (grid0.coords t) 0 + 1 * 0 = t.val / 32; rw [ho]; rfl
  rw [e1, e2, iblk4, iblk0, V_v12, V_v16]

/-- The dequantised value of the tile's group, at coordinate `d`, row `r`. -/
theorem vb_apply (t : Fin cfg0.N) (d : Fin 128) (r : Fin 512) : vbOf (grid0.coords t) (iblk m c 3 t) (iblk m c 5 t) (ix2 d r)
    = A4 m c (ix4 ⟨(hd t).val / 56, by omega⟩ ⟨t.val % 32 * 512 + r.val % 8 * 64 + r.val / 8, by omega⟩ ⟨(hd t).val % 56, by omega⟩ d)
      * A5 m c (ix3 ⟨(hd t).val / 56, by omega⟩ ⟨t.val % 32 * 512 + r.val % 8 * 64 + r.val / 8, by omega⟩ ⟨(hd t).val % 56, by omega⟩) := by
  unfold vbOf
  rw [pay91_apply]
  have e1 : View.ld (iblk m c 5 t : Vec Ideal S1x32x512 .f32) (Rect.unit (s := S1x32x512) (k0_off4 (grid0.coords t)) S1x1x512.size (k0_off4_inb (grid0.coords t))) (ix3 0 0 r)
      = (iblk m c 5 t : Vec Ideal S1x32x512 .f32) (ix3 0 ⟨t.val % 32, by omega⟩ r) := by
    refine congrArg (iblk m c 5 t : Vec Ideal S1x32x512 .f32) (funext fun a => Fin.ext ?_)
    have ho := off4_eq (grid0.coords t)
    rw [coords1] at ho
    match a with
    | ⟨0, _⟩ => show k0_off4 (grid0.coords t) 0 + 1 * 0 = 0; rw [ho]; rfl
    | ⟨1, _⟩ => show k0_off4 (grid0.coords t) 1 + 1 * 0 = _; rw [ho]; rfl
    | ⟨2, _⟩ => show k0_off4 (grid0.coords t) 2 + 1 * r.val = _; rw [ho, Nat.one_mul]; exact Nat.zero_add _
  have e2 : View.ld (iblk m c 3 t : Vec Ideal S1x128x16384 .fp8e4m3) (Rect.unit (s := S1x128x16384) (k0_off5 (grid0.coords t)) S1x128x512.size (k0_off5_inb (grid0.coords t))) (ix3 0 d r)
      = (iblk m c 3 t : Vec Ideal S1x128x16384 .fp8e4m3) (ix3 0 d ⟨512 * (t.val % 32) + r.val, by omega⟩) := by
    refine congrArg (iblk m c 3 t : Vec Ideal S1x128x16384 .fp8e4m3) (funext fun a => Fin.ext ?_)
    have ho := off5_eq (grid0.coords t)
    rw [coords1] at ho
    match a with
    | ⟨0, _⟩ => show k0_off5 (grid0.coords t) 0 + 1 * 0 = 0; rw [ho]; rfl
    | ⟨1, _⟩ => show k0_off5 (grid0.coords t) 1 + 1 * d.val = _; rw [ho, Nat.one_mul]; exact Nat.zero_add _
    | ⟨2, _⟩ => show k0_off5 (grid0.coords t) 2 + 1 * r.val = _; rw [ho, Nat.one_mul]; rfl
  rw [e1, e2, iblk3, iblk5, V_v10, V_v15]
  refine Ideal.mul_congr ?_ rfl
  congr 2
  apply Fin.ext
  show (512 * (t.val % 32) + r.val) / 512 * 512 + (512 * (t.val % 32) + r.val) % 8 * 64 + (512 * (t.val % 32) + r.val) / 8 % 64 = t.val % 32 * 512 + r.val % 8 * 64 + r.val / 8
  omega

/-! ## The result array -/

/-- The grid point that writes an element of the result. -/
def ptOf (i : S2x16384x7168.Idx) : Fin cfg0.N :=
  ⟨32 * (56 * (i 0).val + (i 2).val / 128) + (i 1).val / 512, by
    have h0 : (i 0).val < 2 := (i 0).isLt
    have h1 : (i 1).val < 16384 := (i 1).isLt
    have h2 : (i 2).val < 7168 := (i 2).isLt
    rw [N0]; omega⟩

/-- The result array: each element is the one of the block that its grid point leaves. -/
def result : Buf (Elt Ideal) ((c.tc : Thread nD τ).loc main_v17) := fun i : S2x16384x7168.Idx =>
  outAt m c (ptOf i) (ix3 0 ⟨(i 1).val % 512, by omega⟩ ⟨(i 2).val % 128, by omega⟩)

theorem flushed_eq (t : Fin cfg0.N) (hf : (cfg0.win 6).flush t = true) :
    (dats m 0 c).flushed 6 t = ((cfg0.win 6).blk t).view.read (Elt Ideal) (result m c) := by
  show (cfg0.win 6).cut (grid0.coords t) ((dats m 0 c).after 6 t) = _
  rw [after0_6]
  funext y
  rw [View.read_apply]
  obtain ⟨h0, h1, h2⟩ := index6 t
  have ht : t.val < 3584 := N0 ▸ t.isLt
  have y0 : (y 0).val < 1 := (y 0).isLt
  have y1 : (y 1).val < 512 := (y 1).isLt
  have y2 : (y 2).val < 128 := (y 2).isLt
  have e0 : ((win0_6.rect t).emb y 0 : Nat) = t.val / 1792 := by
    show win0_6.index t 0 * 1 + 1 * (y 0).val = _; rw [h0]; omega
  have e1 : ((win0_6.rect t).emb y 1 : Nat) = t.val % 32 * 512 + (y 1).val := by
    show win0_6.index t 1 * 512 + 1 * (y 1).val = _; rw [h1]; omega
  have e2 : ((win0_6.rect t).emb y 2 : Nat) = t.val / 32 % 56 * 128 + (y 2).val := by
    show win0_6.index t 2 * 128 + 1 * (y 2).val = _; rw [h2]; omega
  show outAt m c t y = outAt m c (ptOf ((win0_6.rect t).emb y)) _
  have hp : ptOf ((win0_6.rect t).emb y) = t := by
    apply Fin.ext
    show 32 * (56 * ((win0_6.rect t).emb y 0 : Nat) + ((win0_6.rect t).emb y 2 : Nat) / 128) + ((win0_6.rect t).emb y 1 : Nat) / 512 = t.val
    rw [e0, e1, e2]; omega
  rw [hp]
  congr 1
  funext a
  apply Fin.ext
  match a with
  | ⟨0, _⟩ => show (y 0).val = 0; omega
  | ⟨1, _⟩ => show (y 1).val = ((win0_6.rect t).emb y 1 : Nat) % 512; rw [e1]; omega
  | ⟨2, _⟩ => show (y 2).val = ((win0_6.rect t).emb y 2 : Nat) % 128; rw [e2]; omega

theorem final_o : (dats m 0 c).arrAt 6 cfg0.N = result m c :=
  (dats m 0 c).arrAt_eq_of_cover 6 (result m c) (flushed_eq m c) fun (i : S2x16384x7168.Idx) =>
    ⟨ptOf i, flush0_6 _, by
      show i ∈ ((View.whole main_v17).slice (win0_6.rect (ptOf i))).set
      rw [View.set_slice_whole, Rect.mem_set_unit]
      obtain ⟨h0, h1, h2⟩ := index6 (ptOf i)
      have hv : (ptOf i).val = 32 * (56 * (i 0).val + (i 2).val / 128) + (i 1).val / 512 := rfl
      have i0 : (i 0).val < 2 := (i 0).isLt
      have i1 : (i 1).val < 16384 := (i 1).isLt
      have i2 : (i 2).val < 7168 := (i 2).isLt
      intro a
      match a with
      | ⟨0, _⟩ => show win0_6.index (ptOf i) 0 * 1 ≤ (i 0 : Nat) ∧ (i 0 : Nat) < win0_6.index (ptOf i) 0 * 1 + 1
                  rw [h0, hv]; omega
      | ⟨1, _⟩ => show win0_6.index (ptOf i) 1 * 512 ≤ (i 1 : Nat) ∧ (i 1 : Nat) < win0_6.index (ptOf i) 1 * 512 + 512
                  rw [h1, hv]; omega
      | ⟨2, _⟩ => show win0_6.index (ptOf i) 2 * 128 ≤ (i 2 : Nat) ∧ (i 2 : Nat) < win0_6.index (ptOf i) 2 * 128 + 128
                  rw [h2, hv]; omega⟩

/-- The kernel's run: its result array ends at `result`, its arguments unchanged. -/
theorem run : θ_run defs (onTc (τ := τ) (main (F := Ideal))) ⟨m, fun _ => 0, ρ⟩ fun r => ∀ c : Dev nD,
      r.2.mem ((c.tc : Thread nD τ).loc main_v17) = result m c
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5) :=
  (θ_run defs _ _).mono (fun _ h c => ⟨(h.1 c).trans (final_o m c), h.2.1 c⟩)
    (θ_run_and ((θ_run defs _ _).mono (fun _ h c => (h c).1 6) (run_main m ρ)) (frame m ρ))

end Cert.KernelIdeal.Arr
-- ==== Proof.Spec.lean ====
/-
  The attention that both programs compute, over the reals: scores by key position, the weights of a query and their sum.
-/
module

public import proofs.«01_k».proof.Proof.Math

@[expose] public section

noncomputable section

namespace Cert.Landmark

/-- The score of key `n` for query `p` of head `h`, batch `b`: the scaled product, as an exponent of `e`. -/
def sc (q k : Fin 2 → Fin 16384 → Fin 56 → Fin 128 → ℝ) (qs : Fin 2 → Fin 56 → ℝ) (ks : Fin 2 → Fin 16384 → Fin 56 → ℝ) (c0 : ℝ)
    (b : Fin 2) (h : Fin 56) (p : Fin 16384) (n : ℕ) : ℝ :=
  if hn : n < 16384 then (∑ x : Fin 128, k b ⟨n, hn⟩ h x * q b p h x) * (ks b ⟨n, hn⟩ h * (qs b h * c0)) else 0

/-- The dequantised value of key `n` at coordinate `d`. -/
def vl (v : Fin 2 → Fin 16384 → Fin 56 → Fin 128 → EReal) (vs : Fin 2 → Fin 16384 → Fin 56 → EReal) (b : Fin 2) (h : Fin 56) (d : Fin 128) (n : ℕ) : EReal :=
  if hn : n < 16384 then v b ⟨n, hn⟩ h d * vs b ⟨n, hn⟩ h else 0

/-- The exponentials of the scores, by block and place. -/
def ex (s : ℕ → ℝ) : ℕ → ℕ → ℝ := fun bk j => Real.exp (s (64 * bk + j))

/-- The sum of the outer weights of query position `p`. -/
def Lsum (s : ℕ → ℝ) (p : ℕ) : ℝ := ∑ bk ∈ Finset.range 256, Lb (ex s) (p / 64) (p % 64) bk

/-- The values weighted by the unnormalised weights of query position `p`. -/
def Asum (s : ℕ → ℝ) (V : ℕ → EReal) (p : ℕ) : EReal :=
  ∑ bk ∈ Finset.range 256, ∑ j ∈ Finset.range 64, V (64 * bk + j) * ((Wt (ex s) (p / 64) (p % 64) bk j : ℝ) : EReal)

/-- The output of the attention at a query position. -/
def att (s : ℕ → ℝ) (V : ℕ → EReal) (p : ℕ) : EReal := Asum s V p * (((Lsum s p)⁻¹ : ℝ) : EReal)

/-- A sum over consecutive stretches of `w`. -/
theorem sum_stretch {M : Type*} [AddCommMonoid M] (w : ℕ) (f : ℕ → M) (n : ℕ) :
    ∑ g ∈ Finset.range n, ∑ x ∈ Finset.range w, f (w * g + x) = ∑ x ∈ Finset.range (w * n), f x := by
  induction n with
  | zero => simp
  | succ n ih => rw [Finset.sum_range_succ, ih, Nat.mul_succ, Finset.sum_range_add]

/-- Terms past `a` that vanish add nothing. -/
theorem sum_extend {M : Type*} [AddCommMonoid M] {f : ℕ → M} {a b : ℕ} (h : a ≤ b) (hf : ∀ x, a ≤ x → f x = 0) :
    ∑ x ∈ Finset.range a, f x = ∑ x ∈ Finset.range b, f x := by
  refine Finset.sum_subset (Finset.range_subset_range.2 h) fun x _ hx => hf x ?_
  simpa using hx

theorem Lb_nonneg (s : ℕ → ℝ) (q o b : ℕ) : 0 ≤ Lb (ex s) q o b := by
  have hp : ∀ b j, 0 ≤ ex s b j := fun _ _ => (Real.exp_pos _).le
  unfold Lb
  split_ifs
  · exact hp _ _
  · exact Finset.sum_nonneg fun j _ => by split_ifs <;> [exact hp _ _; exact le_rfl]
  · exact le_rfl

/-- A query always sees the first key of its own block, so its outer weights have a positive sum. -/
theorem Lb_own_pos (s : ℕ → ℝ) (q o : ℕ) : 0 < Lb (ex s) q o q := by
  unfold Lb
  rw [if_neg (lt_irrefl _), if_pos rfl]
  refine Finset.sum_pos' (fun j _ => by split_ifs <;> [exact (Real.exp_pos _).le; exact le_rfl]) ⟨0, Finset.mem_univ _, ?_⟩
  rw [if_pos (show (0 : Fin 63).val ≤ o from Nat.zero_le _)]
  exact Real.exp_pos _

theorem Lsum_pos (s : ℕ → ℝ) {p : ℕ} (hp : p < 16384) : 0 < Lsum s p :=
  Finset.sum_pos' (fun bk _ => Lb_nonneg s _ _ bk) ⟨p / 64, by rw [Finset.mem_range]; omega, Lb_own_pos s _ _⟩

/-- A power of two of a score over `log 2` is its exponential. -/
theorem x2_log (r : ℝ) : x2 (r * (Real.log 2)⁻¹) = Real.exp r := by
  have hl : Real.log 2 ≠ 0 := (Real.log_pos one_lt_two).ne'
  unfold x2
  rw [Real.rpow_def_of_pos two_pos, mul_comm r, ← mul_assoc, mul_inv_cancel₀ hl, one_mul]

end Cert.Landmark
-- ==== Proof.KVal.lean ====
/-
  What the kernel's result array holds, in closed form: the attention output of each query.
-/
module

public import proofs.«01_k».proof.Proof.Column
public import proofs.«01_k».proof.Proof.Arr
public import proofs.«01_k».proof.Proof.Spec

@[expose] public section

set_option maxRecDepth 16384

noncomputable section

namespace Cert.KernelIdeal.KVal

open Cert.KernelIdeal Cert.KernelIdeal.Gen Cert.KernelIdeal.Body Cert.KernelIdeal.Payload Cert.KernelIdeal.Arr Cert.KernelIdeal.Column Cert.Landmark
open Idealize.ShloMosaic Idealize.ShloMosaic.TcCoe

/-- The product `1/√128 · 2^0` as the programs write it is a real number. -/
theorem c0_real : ∃ r : ℝ, Ideal.ofBits .f32 0x3DB504F3#32 = (r : EReal) := by
  simp only [Ideal.ofBits, Ideal.ieee]
  norm_num
  exact ⟨_, rfl⟩

variable (m : (ℓ : Loc nD τ sig) → Buf (Elt Ideal) ℓ) (c : Dev nD)

/-! ## What the loads of a group read -/

theorem keys_apply (t : Fin cfg0.N) (n : ℕ) (hn : n < 32) (off : Fin 3 → ℕ) (inb : ∀ a, off a + S1x512x128.size a ≤ S1x16384x128.size a)
    (ho : off = ![0, 512 * n, 0]) (j : Fin 64) (β : Fin 8) (x : Fin 128) :
    View.ld (iblk m c 2 t : Vec Ideal S1x16384x128 .fp8e4m3) (Rect.unit (s := S1x16384x128) off S1x512x128.size inb) (ix3 0 ⟨j.val * 8 + β.val, by omega⟩ x)
      = A2 m c (ix4 ⟨(hd t).val / 56, by omega⟩ ⟨64 * (8 * n + β.val) + j.val, by omega⟩ ⟨(hd t).val % 56, by omega⟩ x) := by
  have e : View.ld (iblk m c 2 t : Vec Ideal S1x16384x128 .fp8e4m3) (Rect.unit (s := S1x16384x128) off S1x512x128.size inb) (ix3 0 ⟨j.val * 8 + β.val, by omega⟩ x)
      = (iblk m c 2 t : Vec Ideal S1x16384x128 .fp8e4m3) (ix3 0 ⟨512 * n + (j.val * 8 + β.val), by omega⟩ x) := by
    subst ho
    refine congrArg (iblk m c 2 t : Vec Ideal S1x16384x128 .fp8e4m3) (funext fun a => Fin.ext ?_)
    match a with
    | ⟨0, _⟩ => rfl
    | ⟨1, _⟩ => show 512 * n + 1 * (j.val * 8 + β.val) = _; rw [Nat.one_mul]; rfl
    | ⟨2, _⟩ => show 0 + 1 * x.val = _; rw [Nat.one_mul]; exact Nat.zero_add _
  rw [e, iblk2, V_v7]
  congr 2
  apply Fin.ext
  show (512 * n + (j.val * 8 + β.val)) / 512 * 512 + (512 * n + (j.val * 8 + β.val)) % 8 * 64 + (512 * n + (j.val * 8 + β.val)) / 8 % 64 = 64 * (8 * n + β.val) + j.val
  omega

theorem query_apply (t : Fin cfg0.N) (cc : Fin 512) (x : Fin 128) : View.ld (iblk m c 1 t : Vec Ideal S1x512x128 .fp8e4m3) rq (ix3 0 cc x)
    = A0 m c (ix4 ⟨(hd t).val / 56, by omega⟩ ⟨t.val % 32 * 512 + cc.val, by omega⟩ ⟨(hd t).val % 56, by omega⟩ x) := by
  have e : View.ld (iblk m c 1 t : Vec Ideal S1x512x128 .fp8e4m3) rq (ix3 0 cc x) = (iblk m c 1 t : Vec Ideal S1x512x128 .fp8e4m3) (ix3 0 cc x) := by
    refine congrArg (iblk m c 1 t : Vec Ideal S1x512x128 .fp8e4m3) (funext fun a => Fin.ext ?_)
    match a with
    | ⟨0, _⟩ => rfl
    | ⟨1, _⟩ => show 0 + 1 * cc.val = _; rw [Nat.one_mul]; exact Nat.zero_add _
    | ⟨2, _⟩ => show 0 + 1 * x.val = _; rw [Nat.one_mul]; exact Nat.zero_add _
  rw [e, iblk1, V_v4]

/-- The scaled key scale of row `r` of group `n` of head `H`. -/
def kap (H : Fin 112) (n : ℕ) (hn : n < 32) (r : Fin 512) : EReal :=
  A3 m c (ix3 ⟨H.val / 56, by omega⟩ ⟨64 * (8 * n + r.val % 8) + r.val / 8, by omega⟩ ⟨H.val % 56, by omega⟩)
    * (A1 m c (ix2 ⟨H.val / 56, by omega⟩ ⟨H.val % 56, by omega⟩) * Ideal.ofBits .f32 0x3DB504F3#32 * (((Real.log 2)⁻¹ : ℝ) : EReal))

theorem pt_val (H : Fin 112) (n : ℕ) (hn : n < 32) : (pt (32 * H.val + n)).val = 32 * H.val + n := Nat.mod_eq_of_lt (by omega)

theorem pt_hd (H : Fin 112) (n : ℕ) (hn : n < 32) : hd (pt (32 * H.val + n)) = H := Fin.ext (by
  show (pt (32 * H.val + n)).val / 32 = _; rw [pt_val H n hn]; omega)

theorem scales_apply (H : Fin 112) (n : ℕ) (hn : n < 32) (off : Fin 2 → ℕ) (inb : ∀ a, off a + S512x128.size a ≤ S16384x128.size a)
    (ho : off = ![512 * n, 0]) (r : Fin 512) (x : Fin 128) :
    View.ld (prepK m c H.val) (Rect.unit (s := S16384x128) off S512x128.size inb) (ix2 r x) = kap m c H n hn r := by
  have e : View.ld (prepK m c H.val) (Rect.unit (s := S16384x128) off S512x128.size inb) (ix2 r x)
      = prepK m c H.val (ix2 ⟨512 * n + r.val, by omega⟩ x) := by
    subst ho
    refine congrArg (prepK m c H.val) (funext fun a => Fin.ext ?_)
    match a with
    | ⟨0, _⟩ => show 512 * n + 1 * r.val = _; rw [Nat.one_mul]; rfl
    | ⟨1, _⟩ => show 0 + 1 * x.val = _; rw [Nat.one_mul]; exact Nat.zero_add _
  rw [e]
  have e2 : prepK m c H.val (ix2 ⟨512 * n + r.val, by omega⟩ x) = kscOf (grid0.coords (pt (32 * H.val + n))) (iblk m c 0 (pt (32 * H.val + n))) (iblk m c 4 (pt (32 * H.val + n)))
      (ix2 ⟨r.val % 8, by omega⟩ ⟨r.val / 8, by omega⟩) := by
    have h1 : (512 * n + r.val) / 512 = n := by omega
    show kscOf (grid0.coords (pt (32 * H.val + (512 * n + r.val) / 512))) (iblk m c 0 (pt (32 * H.val + (512 * n + r.val) / 512))) (iblk m c 4 (pt (32 * H.val + (512 * n + r.val) / 512)))
      (ix2 (n0 := 8) (n1 := 64) ⟨(512 * n + r.val) % 512 % 8, _⟩ ⟨(512 * n + r.val) % 512 / 8, _⟩) = _
    rw [h1]
    congr 2 <;> (apply Fin.ext; simp only; omega)
  rw [e2, ksc_apply]
  unfold kap
  simp only [pt_hd H n hn, pt_val H n hn]
  refine Ideal.mul_congr ?_ rfl
  congr 2
  apply Fin.ext
  show (8 * ((32 * H.val + n) % 32) + r.val % 8) * 64 + r.val / 8 = 64 * (8 * n + r.val % 8) + r.val / 8
  omega

theorem values_apply (H : Fin 112) (n : ℕ) (hn : n < 32) (off : Fin 2 → ℕ) (inb : ∀ a, off a + S128x512.size a ≤ S128x16384.size a)
    (ho : off = ![0, 512 * n]) (d : Fin 128) (r : Fin 512) :
    View.ld (prepV m c H.val) (Rect.unit (s := S128x16384) off S128x512.size inb) (ix2 d r)
      = A4 m c (ix4 ⟨H.val / 56, by omega⟩ ⟨64 * (8 * n + r.val % 8) + r.val / 8, by omega⟩ ⟨H.val % 56, by omega⟩ d)
        * A5 m c (ix3 ⟨H.val / 56, by omega⟩ ⟨64 * (8 * n + r.val % 8) + r.val / 8, by omega⟩ ⟨H.val % 56, by omega⟩) := by
  have e : View.ld (prepV m c H.val) (Rect.unit (s := S128x16384) off S128x512.size inb) (ix2 d r)
      = prepV m c H.val (ix2 d ⟨512 * n + r.val, by omega⟩) := by
    subst ho
    refine congrArg (prepV m c H.val) (funext fun a => Fin.ext ?_)
    match a with
    | ⟨0, _⟩ => show 0 + 1 * d.val = _; rw [Nat.one_mul]; exact Nat.zero_add _
    | ⟨1, _⟩ => show 512 * n + 1 * r.val = _; rw [Nat.one_mul]; rfl
  rw [e]
  have e2 : prepV m c H.val (ix2 d ⟨512 * n + r.val, by omega⟩) = vbOf (grid0.coords (pt (32 * H.val + n))) (iblk m c 3 (pt (32 * H.val + n))) (iblk m c 5 (pt (32 * H.val + n)))
      (ix2 d r) := by
    have h1 : (512 * n + r.val) / 512 = n := by omega
    show vbOf (grid0.coords (pt (32 * H.val + (512 * n + r.val) / 512))) (iblk m c 3 (pt (32 * H.val + (512 * n + r.val) / 512))) (iblk m c 5 (pt (32 * H.val + (512 * n + r.val) / 512)))
      (ix2 (n0 := 128) (n1 := 512) d ⟨(512 * n + r.val) % 512, _⟩) = _
    rw [h1]
    congr 2
    apply Fin.ext; simp only; omega
  rw [e2, vb_apply]
  simp only [pt_hd H n hn, pt_val H n hn]
  refine Ideal.mul_congr ?_ ?_
  · congr 2
    apply Fin.ext
    show (32 * H.val + n) % 32 * 512 + r.val % 8 * 64 + r.val / 8 = 64 * (8 * n + r.val % 8) + r.val / 8
    omega
  · congr 2
    apply Fin.ext
    show (32 * H.val + n) % 32 * 512 + r.val % 8 * 64 + r.val / 8 = 64 * (8 * n + r.val % 8) + r.val / 8
    omega

/-! ## A query column -/

variable {q k : Fin 2 → Fin 16384 → Fin 56 → Fin 128 → ℝ} {qs : Fin 2 → Fin 56 → ℝ} {ks : Fin 2 → Fin 16384 → Fin 56 → ℝ} {c0 : ℝ}
  (hq : ∀ b p h x, A0 m c (ix4 b p h x) = ((q b p h x : ℝ) : EReal)) (hqs : ∀ b h, A1 m c (ix2 b h) = ((qs b h : ℝ) : EReal))
  (hk : ∀ b p h x, A2 m c (ix4 b p h x) = ((k b p h x : ℝ) : EReal)) (hks : ∀ b p h, A3 m c (ix3 b p h) = ((ks b p h : ℝ) : EReal))
  (hc : Ideal.ofBits .f32 0x3DB504F3#32 = (c0 : EReal))

/-- The values of the arguments, by coordinates. -/
abbrev vA (b : Fin 2) (p : Fin 16384) (h : Fin 56) (x : Fin 128) : EReal := A4 m c (ix4 b p h x)
abbrev sA (b : Fin 2) (p : Fin 16384) (h : Fin 56) : EReal := A5 m c (ix3 b p h)

/-- The base-two score, by block and place. -/
def s2 (s : ℕ → ℝ) : ℕ → ℕ → ℝ := fun bk j => s (64 * bk + j) * (Real.log 2)⁻¹

theorem EE_s2 (s : ℕ → ℝ) : EE (s2 s) = ex s := funext fun bk => funext fun j => x2_log _

include hq hqs hk hks hc in
/-- The kernel's base-two scores of a group. -/
theorem T_eq (b : Fin 2) (h : Fin 56) (p : Fin 16384) (H : Fin 112) (hH : H.val = 56 * b.val + h.val) (t : Fin cfg0.N) (ht : t.val = 32 * H.val + p.val / 512) (n : ℕ) (hn : n < 32)
    (off : Fin 3 → ℕ) (inb : ∀ a, off a + S1x512x128.size a ≤ S1x16384x128.size a) (ho : off = ![0, 512 * n, 0]) (j : Fin 64) (β : Fin 8) :
    Payload.T (View.ld (iblk m c 2 t : Vec Ideal S1x16384x128 .fp8e4m3) (Rect.unit (s := S1x16384x128) off S1x512x128.size inb))
      (View.ld (iblk m c 1 t : Vec Ideal S1x512x128 .fp8e4m3) rq) (kap m c H n hn) j β ⟨p.val % 512, by omega⟩
      = ((s2 (sc q k qs ks c0 b h p) (8 * n + β.val) j.val : ℝ) : EReal) := by
  have hhd : hd t = H := Fin.ext (by show t.val / 32 = _; omega)
  have hb : (⟨H.val / 56, by omega⟩ : Fin 2) = b := Fin.ext (by show H.val / 56 = b.val; omega)
  have hh : (⟨H.val % 56, by omega⟩ : Fin 56) = h := Fin.ext (by show H.val % 56 = h.val; omega)
  have hp : (⟨t.val % 32 * 512 + p.val % 512, by omega⟩ : Fin 16384) = p := Fin.ext (by show t.val % 32 * 512 + p.val % 512 = p.val; omega)
  have hr : ∀ y, (⟨64 * (8 * n + (j.val * 8 + β.val) % 8) + (j.val * 8 + β.val) / 8, y⟩ : Fin 16384) = ⟨64 * (8 * n + β.val) + j.val, by omega⟩ := fun y => Fin.ext (by
    show 64 * (8 * n + (j.val * 8 + β.val) % 8) + (j.val * 8 + β.val) / 8 = 64 * (8 * n + β.val) + j.val; omega)
  unfold Payload.T kap
  simp only [keys_apply m c t n hn off inb ho, query_apply, hhd, hb, hh, hp, hr, hq, hqs, hk, hks, hc]
  simp only [← EReal.coe_mul]
  rw [coe_sum, ← EReal.coe_mul]
  congr 1
  unfold s2 sc
  rw [dif_pos (by omega)]
  ring

include hq hqs hk hks hc in
/-- The column's state after `n` past groups. -/
theorem St_holds (b : Fin 2) (h : Fin 56) (p : Fin 16384) (d : Fin 128) (H : Fin 112) (hH : H.val = 56 * b.val + h.val) (t : Fin cfg0.N) (ht : t.val = 32 * H.val + p.val / 512) :
    ∀ n ≤ p.val / 512, Holds (St (grid0.coords t) (iblk m c 1 t) (iblk m c 2 t) (prepK m c H.val) (prepV m c H.val) n) ⟨p.val % 512, by omega⟩ d
      (∑ g ∈ Finset.range n, Lg (s2 (sc q k qs ks c0 b h p)) (p.val / 64) (p.val % 64) g)
      (∑ g ∈ Finset.range n, Ag (s2 (sc q k qs ks c0 b h p)) (fun bk j => vl (vA m c) (sA m c) b h d (64 * bk + j)) (p.val / 64) (p.val % 64) g)
  | 0, _ => by
    obtain ⟨N, hN⟩ := NEG_real
    refine ⟨N, ?_, ?_, ?_⟩
    · exact (pay92_apply (ix2 0 ⟨p.val % 512, by omega⟩)).trans hN
    · exact (pay93_apply (ix2 0 ⟨p.val % 512, by omega⟩)).trans (by simp)
    · exact (pay94_apply (ix2 d ⟨p.val % 512, by omega⟩)).trans (by simp)
  | n + 1, hn => by
    have hb : (⟨H.val / 56, by omega⟩ : Fin 2) = b := Fin.ext (by show H.val / 56 = b.val; omega)
    have hh : (⟨H.val % 56, by omega⟩ : Fin 56) = h := Fin.ext (by show H.val % 56 = h.val; omega)
    have htr : n < (k0_t1_loop (grid0.coords t)).trips := by rw [trips1, coords1]; omega
    have hn' : n < 32 := by omega
    rw [St_succ _ _ _ _ _ ⟨n, htr⟩, Finset.sum_range_succ, Finset.sum_range_succ]
    refine step_col (κ := kap m c H n hn') (g := n)
      (fun r x => scales_apply m c H n hn' _ _ (k0_off8_eq _ ⟨n, htr⟩) r x)
      (T_eq m c hq hqs hk hks hc b h p H hH t ht n hn' _ _ (k0_off7_eq _ ⟨n, htr⟩))
      (fun r => ?_) (p.val / 64) (p.val % 64) (by omega) (St_holds b h p d H hH t ht n (by omega))
    rw [values_apply m c H n hn' _ _ (k0_off9_eq _ ⟨n, htr⟩), hb, hh]
    unfold vl
    rw [dif_pos (by omega)]

theorem Lg_zero (s : ℕ → ℕ → ℝ) (qb o bk : ℕ) (h : qb < bk) : Lb (EE s) qb o bk = 0 := by
  unfold Lb
  rw [if_neg (by omega), if_neg (by omega)]

theorem Wt_zero (E : ℕ → ℕ → ℝ) (qb o bk j : ℕ) (h : qb < bk) : Wt E qb o bk j = 0 := by
  unfold Wt
  split_ifs <;> first | rfl | omega

/-- The groups up to the query's make the whole sum. -/
theorem Lg_sum (s : ℕ → ℝ) (p : Fin 16384) :
    ∑ g ∈ Finset.range (p.val / 512 + 1), Lg (s2 s) (p.val / 64) (p.val % 64) g = Lsum s p.val := by
  have h1 : ∀ g, Lg (s2 s) (p.val / 64) (p.val % 64) g = ∑ x ∈ Finset.range 8, Lb (ex s) (p.val / 64) (p.val % 64) (8 * g + x) := fun g => by
    unfold Lg
    rw [EE_s2, Finset.sum_range]
  simp only [h1]
  unfold Lsum
  have h8 := sum_stretch 8 (fun bk => Lb (ex s) (p.val / 64) (p.val % 64) bk) (p.val / 512 + 1)
  rw [h8]
  refine sum_extend (by omega) fun x hx => ?_
  rw [← EE_s2]
  exact Lg_zero _ _ _ _ (by omega)

theorem Ag_sum (s : ℕ → ℝ) (V : ℕ → EReal) (p : Fin 16384) :
    ∑ g ∈ Finset.range (p.val / 512 + 1), Ag (s2 s) (fun bk j => V (64 * bk + j)) (p.val / 64) (p.val % 64) g = Asum s V p.val := by
  have h1 : ∀ g, Ag (s2 s) (fun bk j => V (64 * bk + j)) (p.val / 64) (p.val % 64) g
      = ∑ x ∈ Finset.range 8, ∑ j ∈ Finset.range 64, V (64 * (8 * g + x) + j) * ((Wt (ex s) (p.val / 64) (p.val % 64) (8 * g + x) j : ℝ) : EReal) := fun g => by
    unfold Ag
    rw [EE_s2, sum_rows fun x j => V (64 * (8 * g + x) + j) * ((Wt (ex s) (p.val / 64) (p.val % 64) (8 * g + x) j : ℝ) : EReal), Finset.sum_range]
    refine Finset.sum_congr rfl fun β _ => ?_
    rw [Finset.sum_range]
  simp only [h1]
  have h8 := sum_stretch 8 (fun bk => ∑ j ∈ Finset.range 64, V (64 * bk + j) * ((Wt (ex s) (p.val / 64) (p.val % 64) bk j : ℝ) : EReal)) (p.val / 512 + 1)
  rw [h8]
  unfold Asum
  refine sum_extend (by omega) fun x hx => Finset.sum_eq_zero fun j _ => ?_
  rw [Wt_zero _ _ _ _ _ (by omega), EReal.coe_zero, mul_zero]

include hq hqs hk hks hc in
/-- The kernel's result at a query: the attention output. -/
theorem result_apply (b : Fin 2) (h : Fin 56) (p : Fin 16384) (d : Fin 128) :
    (result m c : Vec Ideal S2x16384x7168 .bf16) (ix3 b p ⟨h.val * 128 + d.val, by omega⟩)
      = att (sc q k qs ks c0 b h p) (vl (vA m c) (sA m c) b h d) p.val := by
  obtain ⟨H, hH⟩ : ∃ H : Fin 112, H.val = 56 * b.val + h.val := ⟨⟨56 * b.val + h.val, by omega⟩, rfl⟩
  obtain ⟨t, ht⟩ : ∃ t : Fin cfg0.N, t.val = 32 * H.val + p.val / 512 := ⟨⟨32 * H.val + p.val / 512, by rw [N0]; omega⟩, rfl⟩
  have hb : (⟨H.val / 56, by omega⟩ : Fin 2) = b := Fin.ext (by show H.val / 56 = b.val; omega)
  have hh : (⟨H.val % 56, by omega⟩ : Fin 56) = h := Fin.ext (by show H.val % 56 = h.val; omega)
  have hpt : ptOf (ix3 b p ⟨h.val * 128 + d.val, by omega⟩) = t := Fin.ext (by
    show 32 * (56 * b.val + (h.val * 128 + d.val) / 128) + p.val / 512 = t.val; omega)
  show outAt m c (ptOf (ix3 b p ⟨h.val * 128 + d.val, by omega⟩)) (ix3 0 ⟨p.val % 512, _⟩ ⟨(h.val * 128 + d.val) % 128, _⟩) = _
  rw [hpt]
  have hd' : (⟨(h.val * 128 + d.val) % 128, by omega⟩ : Fin 128) = d := Fin.ext (by show (h.val * 128 + d.val) % 128 = d.val; omega)
  show outAt m c t (ix3 0 ⟨p.val % 512, by omega⟩ ⟨(h.val * 128 + d.val) % 128, by omega⟩) = _
  rw [hd']
  unfold outAt outF
  have hH' : t.val / 32 = H.val := by omega
  have hT : (grid0.coords t 1).val = p.val / 512 := by rw [coords1]; omega
  have hn' : p.val / 512 < 32 := by omega
  have o13 := k0_off13_eq (grid0.coords t)
  have o14 := k0_off14_eq (grid0.coords t)
  have o6 := k0_off6_eq (grid0.coords t)
  rw [hT] at o13 o14 o6
  rw [hH', trips1, hT]
  have key := last_col (κ := kap m c H (p.val / 512) hn') (g := p.val / 512) (s := s2 (sc q k qs ks c0 b h p)) (V := fun bk j => vl (vA m c) (sA m c) b h d (64 * bk + j))
      (c := ⟨p.val % 512, by omega⟩) (d := d)
      (fun r x => scales_apply m c H (p.val / 512) hn' _ (k0_off14_inb (grid0.coords t)) o14 r x)
      (T_eq m c hq hqs hk hks hc b h p H hH t ht (p.val / 512) hn' _ (k0_off13_inb (grid0.coords t)) o13)
      (vv := View.ld (prepV m c H.val) (rV (grid0.coords t)))
      (fun r => by
        rw [values_apply m c H (p.val / 512) hn' _ _ o6, hb, hh]
        unfold vl
        rw [dif_pos (by omega)])
      (p.val / 64) (p.val % 64) (by show p.val / 64 = 8 * (p.val / 512) + p.val % 512 / 64; omega) (by show p.val % 64 = p.val % 512 % 64; omega)
      (St_holds m c hq hqs hk hks hc b h p d H hH t ht (p.val / 512) le_rfl)
  rw [← Finset.sum_range_succ, ← Finset.sum_range_succ, Lg_sum, Ag_sum] at key
  obtain ⟨μ, -, hl, ha⟩ := key
  show k0_pay3 _ _ _ = _
  rw [pay3_apply]
  exact (congrArg₂ Ideal.div ha hl).trans (quot _ _ μ (Lsum_pos _ p.isLt))

end Cert.KernelIdeal.KVal
-- ==== Proof.Ref.lean ====
/-
  The reference's result term, in named pieces: the scores, the masks, the two logarithms of sums and the weights.
-/
module

public import proofs.«01_k».proof.Proof.Gen.ReferenceIdeal.Run
public import Idealize.ShloMosaic.Lib.Pointwise
public import Idealize.ShloMosaic.PureOps.Ideal

@[expose] public section

set_option maxRecDepth 16384

noncomputable section

namespace Cert.ReferenceIdeal.Ref

open Cert.ReferenceIdeal Cert.ReferenceIdeal.Gen
open Idealize.ShloMosaic Idealize.ShloMosaic.TcCoe Idealize.SL.Sem

variable (m : (ℓ : Loc nD τ sig) → Buf (Elt Ideal) ℓ) (c : Dev nD)

abbrev B0 : FVec Ideal S2x16384x56x128 .f32 := m ((c.tc : Thread nD τ).loc main_arg0)
abbrev B1 : FVec Ideal S2x56 .f32 := m ((c.tc : Thread nD τ).loc main_arg1)
abbrev B2 : FVec Ideal S2x16384x56x128 .f32 := m ((c.tc : Thread nD τ).loc main_arg2)
abbrev B3 : FVec Ideal S2x16384x56 .f32 := m ((c.tc : Thread nD τ).loc main_arg3)
abbrev B4 : FVec Ideal S2x16384x56x128 .f32 := m ((c.tc : Thread nD τ).loc main_arg4)
abbrev B5 : FVec Ideal S2x16384x56 .f32 := m ((c.tc : Thread nD τ).loc main_arg5)

/-! ## The pieces -/

/-- The scores, by batch, head, query, key block and place. -/
def RS : FVec Ideal S2x56x16384x256x64 .f32 :=
  (shapeCast _ (mulf (mulf (Host.dotGeneral dot_S2x16384x56x128_S2x16384x56x128_S2x56x16384x16384_3_3_1_1_02_02 none (B0 m c) (B2 m c)) (broadcastInDim S2x56x16384x16384 ![0, 1, 2, 3] bcast_S2x56x1x1_S2x56x16384x16384_0_1_2_3 (broadcastInDim S2x56x1x1 ![0, 1] bcast_S2x56_S2x56x1x1_0_1 (mulf (B1 m c) (broadcastInDim S2x56 ![] bcast_S_S2x56 (constant S_ .f32 0x3DB504F3#32)))))) (broadcastInDim S2x56x16384x16384 ![0, 1, 2, 3] bcast_S2x56x1x16384_S2x56x16384x16384_0_1_2_3 (broadcastInDim S2x56x1x16384 ![0, 1, 3] bcast_S2x56x16384_S2x56x1x16384_0_1_3 (transpose S2x56x16384 [0, 2, 1] (B3 m c) transposes_S2x16384x56_S2x56x16384_0_2_1)))) shapeCasts_S2x56x16384x16384_S2x56x16384x256x64)

/-- The query's block. -/
def QB : IVec S16384 32 := shapeCast _ (iotaInDim S256x64 32 0) shapeCasts_S256x64_S16384
/-- The query's place. -/
def QO : IVec S16384 32 := shapeCast _ (iotaInDim S256x64 32 1) shapeCasts_S256x64_S16384
/-- The regular places. -/
def REG : IVec S64 1 := cmpi .slt (iotaInDim S64 32 0) (broadcastInDim S64 ![] bcast_S_S64 (constantI S_ 32 63#32))
/-- The key blocks before the query's. -/
def PAST : IVec S16384x256 1 := cmpi .slt (broadcastInDim S16384x256 ![0, 1] bcast_S1x256_S16384x256_0_1 (broadcastInDim S1x256 ![1] bcast_S256_S1x256_1 (iotaInDim S256 32 0))) (broadcastInDim S16384x256 ![0, 1] bcast_S16384x1_S16384x256_0_1 (broadcastInDim S16384x1 ![0] bcast_S16384_S16384x1_0 QB))
/-- The query's own block. -/
def OWN : IVec S16384x256 1 := cmpi .eq (broadcastInDim S16384x256 ![0, 1] bcast_S1x256_S16384x256_0_1 (broadcastInDim S1x256 ![1] bcast_S256_S1x256_1 (iotaInDim S256 32 0))) (broadcastInDim S16384x256 ![0, 1] bcast_S16384x1_S16384x256_0_1 (broadcastInDim S16384x1 ![0] bcast_S16384_S16384x1_0 QB))
/-- The places up to the query's. -/
def CAUSAL : IVec S16384x1x64 1 := cmpi .sle (broadcastInDim S16384x1x64 ![0, 1, 2] bcast_S1x1x64_S16384x1x64_0_1_2 (broadcastInDim S1x1x64 ![2] bcast_S64_S1x1x64_2 (iotaInDim S64 32 0))) (broadcastInDim S16384x1x64 ![0, 1, 2] bcast_S16384x1x1_S16384x1x64_0_1_2 (broadcastInDim S16384x1x1 ![0] bcast_S16384_S16384x1x1_0 QO))
/-- The keys of the query's own block that it sees. -/
def OWNVIS : IVec S16384x256x64 1 := andi (andi (broadcastInDim S16384x256x64 ![0, 1, 2] bcast_S16384x256x1_S16384x256x64_0_1_2 (broadcastInDim S16384x256x1 ![0, 1] bcast_S16384x256_S16384x256x1_0_1 OWN)) (broadcastInDim S16384x256x64 ![0, 1, 2] bcast_S1x1x64_S16384x256x64_0_1_2 (broadcastInDim S1x1x64 ![2] bcast_S64_S1x1x64_2 REG))) (broadcastInDim S16384x256x64 ![0, 1, 2] bcast_S16384x1x64_S16384x256x64_0_1_2 CAUSAL)
/-- The keys that get a weight. -/
def VIS : IVec S16384x256x64 1 := ori OWNVIS (andi (broadcastInDim S16384x256x64 ![0, 1, 2] bcast_S16384x256x1_S16384x256x64_0_1_2 (broadcastInDim S16384x256x1 ![0, 1] bcast_S16384x256_S16384x256x1_0_1 PAST)) (broadcastInDim S16384x256x64 ![0, 1, 2] bcast_S1x1x64_S16384x256x64_0_1_2 (broadcastInDim S1x1x64 ![2] bcast_S64_S1x1x64_2 REG)))
/-- The keys of the outer softmax. -/
def OUTER : IVec S16384x256x64 1 := ori OWNVIS (andi (broadcastInDim S16384x256x64 ![0, 1, 2] bcast_S16384x256x1_S16384x256x64_0_1_2 (broadcastInDim S16384x256x1 ![0, 1] bcast_S16384x256_S16384x256x1_0_1 PAST)) (broadcastInDim S16384x256x64 ![0, 1, 2] bcast_S1x1x64_S16384x256x64_0_1_2 (broadcastInDim S1x1x64 ![2] bcast_S64_S1x1x64_2 (noti REG))))

variable (s : FVec Ideal S2x56x16384x256x64 .f32)

/-- The maximum over a block's regular places. -/
def MIN : FVec Ideal S2x56x16384x256 .f32 := Host.reduce FloatOps.maximumf (select (broadcastInDim S2x56x16384x256x64 ![4] bcast_S64_S2x56x16384x256x64_4 REG) s (broadcastInDim S2x56x16384x256x64 ![] bcast_S_S2x56x16384x256x64 (id (constant S_ .f32 0xFF800000#32)))) (constant S_ .f32 0xFF800000#32) reducesTo_S2x56x16384x256x64_S2x56x16384x256_d4 h_S_
/-- The terms of a block's sum. -/
def EIN : FVec Ideal S2x56x16384x256x64 .f32 := Host.exp (select (broadcastInDim S2x56x16384x256x64 ![4] bcast_S64_S2x56x16384x256x64_4 REG) (subf s (broadcastInDim S2x56x16384x256x64 ![0, 1, 2, 3, 4] bcast_S2x56x16384x256x1_S2x56x16384x256x64_0_1_2_3_4 (broadcastInDim S2x56x16384x256x1 ![0, 1, 2, 3] bcast_S2x56x16384x256_S2x56x16384x256x1_0_1_2_3 (MIN s)))) (broadcastInDim S2x56x16384x256x64 ![] bcast_S_S2x56x16384x256x64 (id (constant S_ .f32 0xFF800000#32))))
/-- A block's sum of exponentials. -/
def SIN : FVec Ideal S2x56x16384x256 .f32 := Host.reduceAdd (EIN s) (constant S_ .f32 0x00000000#32) reducesTo_S2x56x16384x256x64_S2x56x16384x256_d4 h_S_
/-- The logarithm of the sum of exponentials over a block's regular places. -/
def LIN : FVec Ideal S2x56x16384x256 .f32 := addf (MIN s) (Host.log (SIN s))
/-- The maximum over the outer softmax's keys. -/
def MOUT : FVec Ideal S2x56x16384 .f32 := Host.reduce FloatOps.maximumf (select (broadcastInDim S2x56x16384x256x64 ![2, 3, 4] bcast_S16384x256x64_S2x56x16384x256x64_2_3_4 OUTER) s (broadcastInDim S2x56x16384x256x64 ![] bcast_S_S2x56x16384x256x64 (id (constant S_ .f32 0xFF800000#32)))) (constant S_ .f32 0xFF800000#32) reducesTo_S2x56x16384x256x64_S2x56x16384_d3_4 h_S_
/-- The terms of the outer softmax's sum. -/
def EOUT : FVec Ideal S2x56x16384x256x64 .f32 := Host.exp (select (broadcastInDim S2x56x16384x256x64 ![2, 3, 4] bcast_S16384x256x64_S2x56x16384x256x64_2_3_4 OUTER) (subf s (broadcastInDim S2x56x16384x256x64 ![0, 1, 2, 3, 4] bcast_S2x56x16384x1x1_S2x56x16384x256x64_0_1_2_3_4 (broadcastInDim S2x56x16384x1x1 ![0, 1, 2] bcast_S2x56x16384_S2x56x16384x1x1_0_1_2 (MOUT s)))) (broadcastInDim S2x56x16384x256x64 ![] bcast_S_S2x56x16384x256x64 (id (constant S_ .f32 0xFF800000#32))))
/-- The outer softmax's sum of exponentials. -/
def SOUT : FVec Ideal S2x56x16384 .f32 := Host.reduceAdd (EOUT s) (constant S_ .f32 0x00000000#32) reducesTo_S2x56x16384x256x64_S2x56x16384_d3_4 h_S_
/-- The logarithm of the sum of exponentials over the outer softmax's keys. -/
def LOUT : FVec Ideal S2x56x16384 .f32 := addf (MOUT s) (Host.log (SOUT s))
/-- What is added to a score before its exponential. -/
def OFF : FVec Ideal S2x56x16384x256 .f32 := subf (select (broadcastInDim S2x56x16384x256 ![2, 3] bcast_S16384x256_S2x56x16384x256_2_3 PAST) (subf (shapeCast _ (extractStridedSlice S2x56x16384x256x1 ![0, 0, 0, 0, 63] s slices_S2x56x16384x256x64_S2x56x16384x256x1_0_0_0_0_63) shapeCasts_S2x56x16384x256x1_S2x56x16384x256) (LIN s)) (broadcastInDim S2x56x16384x256 ![] bcast_S_S2x56x16384x256 (id (constant S_ .f32 0x00000000#32)))) (broadcastInDim S2x56x16384x256 ![0, 1, 2, 3] bcast_S2x56x16384x1_S2x56x16384x256_0_1_2_3 (broadcastInDim S2x56x16384x1 ![0, 1, 2] bcast_S2x56x16384_S2x56x16384x1_0_1_2 (LOUT s)))
/-- The weights. -/
def WT : FVec Ideal S2x56x16384x256x64 .f32 := Host.exp (select (broadcastInDim S2x56x16384x256x64 ![2, 3, 4] bcast_S16384x256x64_S2x56x16384x256x64_2_3_4 VIS) (addf s (broadcastInDim S2x56x16384x256x64 ![0, 1, 2, 3, 4] bcast_S2x56x16384x256x1_S2x56x16384x256x64_0_1_2_3_4 (broadcastInDim S2x56x16384x256x1 ![0, 1, 2, 3] bcast_S2x56x16384x256_S2x56x16384x256x1_0_1_2_3 (OFF s)))) (broadcastInDim S2x56x16384x256x64 ![] bcast_S_S2x56x16384x256x64 (id (constant S_ .f32 0xFF800000#32))))
/-- The result, of weights `w`. -/
def OUT (w : FVec Ideal S2x56x16384x256x64 .f32) : FVec Ideal S2x16384x7168 .bf16 := shapeCast _ (truncf .bf16 (transpose S2x16384x56x128 [0, 3, 1, 2] (Host.dotGeneral dot_S2x16384x56x128_S2x56x16384x16384_S2x56x128x16384_1_3_3_2_02_01 none (truncf .bf16 (B4 m c) bitsLt_bf16_f32) (truncf .bf16 (mulf (shapeCast _ w shapeCasts_S2x56x16384x256x64_S2x56x16384x16384) (broadcastInDim S2x56x16384x16384 ![0, 1, 2, 3] bcast_S2x56x1x16384_S2x56x16384x16384_0_1_2_3 (broadcastInDim S2x56x1x16384 ![0, 1, 3] bcast_S2x56x16384_S2x56x1x16384_0_1_3 (transpose S2x56x16384 [0, 2, 1] (B5 m c) transposes_S2x16384x56_S2x56x16384_0_2_1)))) bitsLt_bf16_f32)) transposes_S2x56x128x16384_S2x16384x56x128_0_3_1_2) bitsLt_bf16_f32) shapeCasts_S2x16384x56x128_S2x16384x7168

/-- The reference's result is made of these pieces. -/
theorem res_eq : Value.res_main_v96 (F := Ideal) m c = OUT m c (WT (RS m c)) := rfl

end Cert.ReferenceIdeal.Ref
-- ==== Proof.RMath.lean ====
/-
  The reference's logarithms of masked sums and its weights, over the reals.
-/
module

public import proofs.«01_k».proof.Proof.Spec

@[expose] public section

noncomputable section

namespace Cert.Landmark

open Idealize.ShloMosaic

/-- The maximum over a mask that holds somewhere is real. -/
theorem masked_max {ι : Type} (S : Finset ι) (P : ι → Bool) (f : ι → ℝ) (hne : ∃ i ∈ S, P i = true) :
    ∃ μ : ℝ, S.fold max (⊥ : EReal) (fun i => if P i = true then ((f i : ℝ) : EReal) else ⊥) = (μ : EReal) := by
  have hbot : S.fold max (⊥ : EReal) (fun i => if P i = true then ((f i : ℝ) : EReal) else ⊥) ≠ ⊥ := by
    obtain ⟨i, hi, hp⟩ := hne
    refine (bot_lt_iff_ne_bot).1 ((Finset.lt_fold_max _).2 (Or.inr ⟨i, hi, ?_⟩))
    rw [if_pos hp]
    exact EReal.bot_lt_coe _
  have htop : S.fold max (⊥ : EReal) (fun i => if P i = true then ((f i : ℝ) : EReal) else ⊥) ≠ ⊤ := by
    refine (lt_top_iff_ne_top).1 ((Finset.fold_max_lt _).2 ⟨bot_lt_top, fun i _ => ?_⟩)
    split_ifs
    · exact EReal.coe_lt_top _
    · exact bot_lt_top
  exact ⟨_, (EReal.coe_toReal htop hbot).symm⟩

/-- A masked exponential of a difference. -/
theorem masked_exp (P : Bool) (x μ : ℝ) :
    Ideal.exp (if P = true then (x : EReal) - (μ : EReal) else ⊥) = (((if P = true then Real.exp x else 0) * Real.exp (-μ) : ℝ) : EReal) := by
  cases P
  · simp
  · simp only [if_true, ← EReal.coe_sub, Ideal.exp_coe]
    rw [← Real.exp_add, sub_eq_add_neg]

/-- The logarithm of a masked sum of exponentials, whatever real was taken off first. -/
theorem masked_lse {ι : Type} (S : Finset ι) (P : ι → Bool) (f : ι → ℝ) (hne : ∃ i ∈ S, P i = true) (μ : ℝ) :
    (μ : EReal) + Ideal.log (∑ i ∈ S, Ideal.exp (if P i = true then ((f i : ℝ) : EReal) - (μ : EReal) else ⊥))
      = ((Real.log (∑ i ∈ S, if P i = true then Real.exp (f i) else 0) : ℝ) : EReal) := by
  have hpos : 0 < ∑ i ∈ S, if P i = true then Real.exp (f i) else 0 := by
    obtain ⟨i, hi, hp⟩ := hne
    refine Finset.sum_pos' (fun j _ => by split_ifs <;> [exact (Real.exp_pos _).le; exact le_rfl]) ⟨i, hi, ?_⟩
    rw [if_pos hp]
    exact Real.exp_pos _
  simp only [masked_exp]
  rw [coe_sum, ← Finset.sum_mul, Ideal.log_coe, if_neg (not_le.2 (mul_pos hpos (Real.exp_pos _))), ← EReal.coe_add,
    Real.log_mul hpos.ne' (Real.exp_pos _).ne', Real.log_exp]
  congr 1
  ring

/-- The keys of the own block that a query sees. -/
def ownB (p k j : ℕ) : Bool := (decide (k = p / 64) && decide (j < 63)) && decide (j ≤ p % 64)
/-- The keys that get a weight. -/
def visB (p k j : ℕ) : Bool := ownB p k j || (decide (k < p / 64) && decide (j < 63))
/-- The keys of the outer softmax. -/
def outB (p k j : ℕ) : Bool := ownB p k j || (decide (k < p / 64) && !decide (j < 63))

/-- The sum over a block's regular places. -/
theorem in_sum (E : ℕ → ℝ) : ∑ j : Fin 64, (if decide (j.val < 63) = true then E j.val else 0) = ∑ i : Fin 63, E i.val := by
  rw [Fin.sum_univ_castSucc]
  have h63 : ¬ decide ((Fin.last 63).val < 63) = true := by simp
  rw [if_neg h63, add_zero]
  refine Finset.sum_congr rfl fun i _ => ?_
  have hi : decide ((Fin.castSucc i).val < 63) = true := decide_eq_true i.isLt
  rw [if_pos hi]
  rfl

/-- What a block adds to the outer sum. -/
theorem out_block (s : ℕ → ℝ) (p k : ℕ) :
    ∑ j : Fin 64, (if outB p k j.val = true then Real.exp (s (64 * k + j.val)) else 0) = Lb (ex s) (p / 64) (p % 64) k := by
  rw [Fin.sum_univ_castSucc]
  unfold Lb
  have h63 : (Fin.last 63).val = 63 := rfl
  rcases lt_trichotomy k (p / 64) with h | h | h
  · rw [if_pos h]
    have h1 : outB p k (Fin.last 63).val = true := by simp [outB, ownB, h]
    have h2 : ∀ i : Fin 63, ¬ outB p k (Fin.castSucc i).val = true := fun i => by
      have := i.isLt
      have hne : k ≠ p / 64 := h.ne
      simp [outB, ownB, hne, this]
    rw [if_pos h1, Finset.sum_eq_zero fun i _ => if_neg (h2 i), zero_add]
    rfl
  · have n1 : ¬ k < p / 64 := by omega
    rw [if_neg n1, if_pos h]
    have h1 : ¬ outB p k (Fin.last 63).val = true := by
      have hne : ¬ k < p / 64 := by omega
      simp [outB, ownB, hne]
    rw [if_neg h1, add_zero]
    refine Finset.sum_congr rfl fun i _ => ?_
    have h2 : outB p k (Fin.castSucc i).val = true ↔ i.val ≤ p % 64 := by
      have := i.isLt
      have hne : ¬ k < p / 64 := by omega
      simp [outB, ownB, h]
    simp only [h2]
    rfl
  · have n1 : ¬ k < p / 64 := by omega
    have n2 : ¬ k = p / 64 := by omega
    rw [if_neg n1, if_neg n2]
    have h1 : ∀ j, ¬ outB p k j = true := fun j => by
      have hne : ¬ k < p / 64 := by omega
      have hne' : ¬ k = p / 64 := by omega
      simp [outB, ownB, hne, hne']
    rw [if_neg (h1 _), Finset.sum_eq_zero fun i _ => if_neg (h1 _), zero_add]

/-- The outer sum. -/
theorem out_sum (s : ℕ → ℝ) (p : ℕ) :
    ∑ x : Fin 256 × Fin 64, (if outB p x.1.val x.2.val = true then Real.exp (s (64 * x.1.val + x.2.val)) else 0) = Lsum s p := by
  rw [Fintype.sum_prod_type]
  unfold Lsum
  rw [Finset.sum_range]
  exact Finset.sum_congr rfl fun k _ => out_block s p k.val

/-- The reference's weight of a key, normalised. -/
theorem ref_weight (s : ℕ → ℝ) (p k j : ℕ) (hp : p < 16384) (hj : j < 64) :
    Ideal.exp (if visB p k j = true then ((s (64 * k + j) : ℝ) : EReal)
        + ((if decide (k < p / 64) = true then ((s (64 * k + 63) : ℝ) : EReal) - ((Real.log (∑ i : Fin 63, Real.exp (s (64 * k + i.val))) : ℝ) : EReal) else 0)
            - ((Real.log (Lsum s p) : ℝ) : EReal)) else ⊥)
      = ((Wt (ex s) (p / 64) (p % 64) k j * (Lsum s p)⁻¹ : ℝ) : EReal) := by
  have hL := Lsum_pos s hp
  have hD : 0 < ∑ i : Fin 63, Real.exp (s (64 * k + i.val)) := Finset.sum_pos (fun _ _ => Real.exp_pos _) Finset.univ_nonempty
  unfold Wt
  by_cases h63 : j < 63
  · rw [if_pos h63]
    by_cases hk : k < p / 64
    · have hv : visB p k j = true := by simp [visB, hk, h63]
      rw [if_pos hv, if_pos (decide_eq_true hk), if_pos hk, ← EReal.coe_sub, ← EReal.coe_sub, ← EReal.coe_add, Ideal.exp_coe]
      congr 1
      rw [Real.exp_add, Real.exp_sub, Real.exp_sub, Real.exp_log hL, Real.exp_log hD]
      unfold ex
      field_simp
    · have hk' : ¬ decide (k < p / 64) = true := by simpa using hk
      rw [if_neg hk', if_neg hk]
      by_cases ho : k = p / 64 ∧ j ≤ p % 64
      · have hv : visB p k j = true := by simp [visB, ownB, ho.1.symm, ho.2, h63]
        rw [if_pos hv, if_pos ho, zero_sub, ← EReal.coe_neg, ← EReal.coe_add, Ideal.exp_coe]
        congr 1
        rw [Real.exp_add, Real.exp_neg, Real.exp_log hL]
        rfl
      · have hv : ¬ visB p k j = true := by
          simp only [visB, ownB, Bool.or_eq_true, Bool.and_eq_true, decide_eq_true_eq]
          tauto
        rw [if_neg hv, if_neg ho, zero_mul, EReal.coe_zero]
        rfl
  · have hv : ¬ visB p k j = true := by simp [visB, ownB, h63]
    rw [if_neg hv, if_neg h63, zero_mul, EReal.coe_zero]
    rfl

/-- The weighted sum of the values over all keys is the attention's output. -/
theorem ref_sum (s : ℕ → ℝ) (V : ℕ → EReal) (p : ℕ) (hp : p < 16384) :
    ∑ x : Fin 16384, V x.val * ((Wt (ex s) (p / 64) (p % 64) (x.val / 64) (x.val % 64) * (Lsum s p)⁻¹ : ℝ) : EReal) = att s V p := by
  have hL := Lsum_pos s hp
  unfold att
  have h1 : Asum s V p = ∑ x ∈ Finset.range 16384, V x * ((Wt (ex s) (p / 64) (p % 64) (x / 64) (x % 64) : ℝ) : EReal) := by
    unfold Asum
    have h2 := sum_stretch 64 (fun x => V x * ((Wt (ex s) (p / 64) (p % 64) (x / 64) (x % 64) : ℝ) : EReal)) 256
    rw [show 64 * 256 = 16384 from rfl] at h2
    rw [← h2]
    refine Finset.sum_congr rfl fun k _ => Finset.sum_congr rfl fun j hj => ?_
    have hj' : j < 64 := Finset.mem_range.1 hj
    rw [show (64 * k + j) / 64 = k by omega, show (64 * k + j) % 64 = j by omega]
  rw [h1, sum_mul_coe _ _ (inv_nonneg.2 hL.le), Finset.sum_range]
  refine Finset.sum_congr rfl fun x _ => ?_
  rw [EReal.coe_mul, mul_assoc]

end Cert.Landmark
-- ==== Proof.RMask.lean ====
/-
  The reference's masks read at one index, and sums and maxima over the last two of five axes.
-/
module

public import proofs.«01_k».proof.Proof.Ref
public import proofs.«01_k».proof.Proof.RMath
public import Idealize.ShloMosaic.Lib.IdealHost

@[expose] public section

set_option maxRecDepth 16384

noncomputable section

namespace Cert.ReferenceIdeal.Ref

open Cert.ReferenceIdeal Cert.ReferenceIdeal.Gen Cert.Landmark
open Idealize.ShloMosaic Idealize.ShloMosaic.TcCoe Idealize.SL.Sem

/-! ## The masks -/

theorem toInt_small {n : ℕ} (h : n < 65536) : (BitVec.ofNat 32 n).toInt = n := by
  have ht : (BitVec.ofNat 32 n).toNat = n := by rw [BitVec.toNat_ofNat]; omega
  rw [BitVec.toInt_eq_toNat_of_lt (by rw [ht]; omega), ht]

theorem slt_small {a b : ℕ} (ha : a < 65536) (hb : b < 65536) :
    IntOp.cmpi .slt (BitVec.ofNat 32 a) (BitVec.ofNat 32 b) = BitVec.ofBool (decide (a < b)) := by
  show BitVec.ofBool ((BitVec.ofNat 32 a).slt (BitVec.ofNat 32 b)) = _
  unfold BitVec.slt
  rw [toInt_small ha, toInt_small hb]
  congr 1
  exact decide_eq_decide.2 (by omega)

theorem sle_small {a b : ℕ} (ha : a < 65536) (hb : b < 65536) :
    IntOp.cmpi .sle (BitVec.ofNat 32 a) (BitVec.ofNat 32 b) = BitVec.ofBool (decide (a ≤ b)) := by
  show BitVec.ofBool ((BitVec.ofNat 32 a).sle (BitVec.ofNat 32 b)) = _
  unfold BitVec.sle
  rw [toInt_small ha, toInt_small hb]
  congr 1
  exact decide_eq_decide.2 (by omega)

theorem eq_small {a b : ℕ} (ha : a < 65536) (hb : b < 65536) :
    IntOp.cmpi .eq (BitVec.ofNat 32 a) (BitVec.ofNat 32 b) = BitVec.ofBool (decide (a = b)) := by
  show BitVec.ofBool (BitVec.ofNat 32 a == BitVec.ofNat 32 b) = _
  congr 1
  rw [beq_eq_decide]
  refine decide_eq_decide.2 ⟨fun e => ?_, fun e => by rw [e]⟩
  have := congrArg BitVec.toInt e
  rw [toInt_small ha, toInt_small hb] at this
  omega

theorem andi_bool (a b : Bool) : IntOp.andi (BitVec.ofBool a) (BitVec.ofBool b) = BitVec.ofBool (a && b) := by cases a <;> cases b <;> rfl
theorem ori_bool (a b : Bool) : IntOp.ori (BitVec.ofBool a) (BitVec.ofBool b) = BitVec.ofBool (a || b) := by cases a <;> cases b <;> rfl
theorem not_bool (a : Bool) : ~~~(BitVec.ofBool a) = BitVec.ofBool (!a) := by cases a <;> rfl
theorem select_bool {α : Type} (a : Bool) (x y : α) : Scalar.select (BitVec.ofBool a) x y = if a = true then x else y := by cases a <;> rfl

theorem QB_apply (p : Fin 16384) : QB (ix1 p) = BitVec.ofNat 32 (p.val / 64) := by
  pointwise [QB]
theorem QO_apply (p : Fin 16384) : QO (ix1 p) = BitVec.ofNat 32 (p.val % 64) := by
  pointwise [QO]
theorem REG_apply (j : Fin 64) : REG (ix1 j) = BitVec.ofBool (decide (j.val < 63)) := by
  pointwise [REG]
  exact slt_small (by omega) (by omega)
theorem PAST_apply (p : Fin 16384) (k : Fin 256) : PAST (ix2 p k) = BitVec.ofBool (decide (k.val < p.val / 64)) := by
  pointwise [PAST]
  rw [QB_apply]
  exact slt_small (by omega) (by omega)
theorem OWN_apply (p : Fin 16384) (k : Fin 256) : OWN (ix2 p k) = BitVec.ofBool (decide (k.val = p.val / 64)) := by
  pointwise [OWN]
  rw [QB_apply]
  exact eq_small (by omega) (by omega)
theorem CAUSAL_apply (p : Fin 16384) (j : Fin 64) : CAUSAL (ix3 p 0 j) = BitVec.ofBool (decide (j.val ≤ p.val % 64)) := by
  pointwise [CAUSAL]
  rw [QO_apply]
  exact sle_small (by omega) (by omega)
theorem OWNVIS_apply (p : Fin 16384) (k : Fin 256) (j : Fin 64) : OWNVIS (ix3 p k j) = BitVec.ofBool (ownB p.val k.val j.val) := by
  pointwise [OWNVIS]
  rw [OWN_apply, REG_apply, CAUSAL_apply, andi_bool, andi_bool]
  rfl
theorem VIS_apply (p : Fin 16384) (k : Fin 256) (j : Fin 64) : VIS (ix3 p k j) = BitVec.ofBool (visB p.val k.val j.val) := by
  pointwise [VIS]
  rw [OWNVIS_apply, REG_apply, PAST_apply, andi_bool, ori_bool]
  rfl
theorem OUTER_apply (p : Fin 16384) (k : Fin 256) (j : Fin 64) : OUTER (ix3 p k j) = BitVec.ofBool (outB p.val k.val j.val) := by
  pointwise [OUTER]
  rw [OWNVIS_apply, REG_apply, PAST_apply, not_bool, andi_bool, ori_bool]
  rfl

/-! ## The reductions -/

theorem neg_inf : Ideal.ofBits .f32 0xFF800000#32 = ⊥ := by simp [Ideal.ofBits, Ideal.ieee]
theorem zero_f : Ideal.ofBits .f32 0x00000000#32 = 0 := by simp [Ideal.ofBits, Ideal.ieee]
theorem cst (x : BitVec 32) (i : S_.Idx) : (id (constant (F := Ideal) S_ .f32 x) : FVec Ideal S_ .f32) i = Ideal.ofBits .f32 x := rfl

/-- A sum of a value and a logarithm, at one index. -/
theorem add_log {t : Shape} (x y : FVec Ideal t .f32) (i : t.Idx) : addf x (Host.log y) i = x i + Ideal.log (y i) := rfl

/-- The host's float sum, at one index. -/
theorem reduceAdd_zero {t u : Shape} {axes : List (Fin t.rank)} (x : FVec Ideal t .f32) (h : t.ReducesTo axes u) (j : u.Idx) :
    Host.reduceAdd x (constant (F := Ideal) S_ .f32 0x00000000#32) h h_S_ j = Ideal.hostReduceAdd h x 0 j :=
  congrArg (fun z => Ideal.hostReduceAdd h x z j) zero_f

section r5_a34
variable {n0 n1 n2 n3 n4 : Nat}

/-- The source indices that drop to `(a, b, c)` when the last two of five axes are reduced. -/
theorem fiber34 (h : (⟨5, ![n0, n1, n2, n3, n4]⟩ : Shape).ReducesTo [3, 4] ⟨3, ![n0, n1, n2]⟩) (a : Fin n0) (b : Fin n1) (c : Fin n2) (i : (⟨5, ![n0, n1, n2, n3, n4]⟩ : Shape).Idx) :
    h.drop i = ix3 a b c ↔ ∃ k : Fin n3 × Fin n4, ix5 a b c k.1 k.2 = i := by
  constructor
  · intro e
    refine ⟨(i 3, i 4), ?_⟩
    funext x; apply Fin.ext
    match x with
    | ⟨0, _⟩ => exact (congrArg Fin.val (congrFun e 0)).symm
    | ⟨1, _⟩ => exact (congrArg Fin.val (congrFun e 1)).symm
    | ⟨2, _⟩ => exact (congrArg Fin.val (congrFun e 2)).symm
    | ⟨3, _⟩ => rfl
    | ⟨4, _⟩ => rfl
  · rintro ⟨k, rfl⟩
    funext x
    apply Fin.ext
    match x with
    | ⟨0, _⟩ => rfl
    | ⟨1, _⟩ => rfl
    | ⟨2, _⟩ => rfl

theorem sum34 (h : (⟨5, ![n0, n1, n2, n3, n4]⟩ : Shape).ReducesTo [3, 4] ⟨3, ![n0, n1, n2]⟩) (a : Fin n0) (b : Fin n1) (c : Fin n2)
    (v : (⟨5, ![n0, n1, n2, n3, n4]⟩ : Shape).Idx → EReal) (init : EReal) :
    Ideal.hostReduceAdd h v init (ix3 a b c) = init + ∑ k : Fin n3 × Fin n4, v (ix5 a b c k.1 k.2) :=
  congrArg (init + ·) (Finset.sum_filter_eq_sum_of_fiber _ (fun k : Fin n3 × Fin n4 => ix5 a b c k.1 k.2)
    (fun _ _ e => Prod.ext (congrFun e 3) (congrFun e 4)) (fiber34 h a b c) v)

theorem fold34 (h : (⟨5, ![n0, n1, n2, n3, n4]⟩ : Shape).ReducesTo [3, 4] ⟨3, ![n0, n1, n2]⟩) (a : Fin n0) (b : Fin n1) (c : Fin n2)
    (v : (⟨5, ![n0, n1, n2, n3, n4]⟩ : Shape).Idx → EReal) (init : EReal) :
    (Finset.univ.filter (fun i => h.drop i = ix3 a b c)).fold max init v = (Finset.univ : Finset (Fin n3 × Fin n4)).fold max init (fun k => v (ix5 a b c k.1 k.2)) :=
  Finset.fold_filter_eq_fold_of_fiber max _ (fun k : Fin n3 × Fin n4 => ix5 a b c k.1 k.2)
    (fun _ _ e => Prod.ext (congrFun e 3) (congrFun e 4)) (fiber34 h a b c) init v
end r5_a34

end Cert.ReferenceIdeal.Ref
-- ==== Proof.RVal.lean ====
/-
  The reference's pieces read at one index over the extended reals, and its result in closed form.
-/
module

public import proofs.«01_k».proof.Proof.RMask

@[expose] public section

set_option maxRecDepth 16384

noncomputable section

namespace Cert.ReferenceIdeal.Ref

open Cert.ReferenceIdeal Cert.ReferenceIdeal.Gen Cert.Landmark
open Idealize.ShloMosaic Idealize.ShloMosaic.TcCoe Idealize.SL.Sem

variable (s : FVec Ideal S2x56x16384x256x64 .f32) (b : Fin 2) (h : Fin 56) (p : Fin 16384)

theorem MIN_apply (k : Fin 256) : MIN s (ix4 b h p k)
    = (Finset.univ : Finset (Fin 64)).fold max (⊥ : EReal) (fun j => if decide (j.val < 63) = true then s (ix5 b h p k j) else ⊥) := by
  pointwise [MIN]
  simp only [cst, neg_inf, REG_apply, select_bool]

theorem EIN_apply (k : Fin 256) (j : Fin 64) : EIN s (ix5 b h p k j)
    = Ideal.exp (if decide (j.val < 63) = true then s (ix5 b h p k j) - MIN s (ix4 b h p k) else ⊥) := by
  pointwise [EIN]
  simp only [cst, neg_inf, REG_apply, select_bool]

theorem SIN_apply (k : Fin 256) : SIN s (ix4 b h p k) = ∑ j : Fin 64, EIN s (ix5 b h p k j) := by
  unfold SIN
  generalize EIN s = e
  rw [reduceAdd_zero, Ideal.hostReduceAdd_r5_a4, zero_add]
  rfl

theorem LIN_apply (k : Fin 256) : LIN s (ix4 b h p k) = MIN s (ix4 b h p k) + Ideal.log (SIN s (ix4 b h p k)) := by
  unfold LIN
  exact add_log _ _ _

theorem MOUT_apply : MOUT s (ix3 b h p)
    = (Finset.univ : Finset (Fin 256 × Fin 64)).fold max (⊥ : EReal) (fun x => if outB p.val x.1.val x.2.val = true then s (ix5 b h p x.1 x.2) else ⊥) := by
  pointwise [MOUT]
  refine (fold34 reducesTo_S2x56x16384x256x64_S2x56x16384_d3_4 b h p _ _).trans ?_
  simp only [cst, neg_inf]
  refine congrArg (fun f => Finset.fold max (⊥ : EReal) f Finset.univ) (funext fun x => ?_)
  show Scalar.select (OUTER (ix3 p x.1 x.2)) _ _ = _
  rw [OUTER_apply, select_bool]

theorem EOUT_apply (k : Fin 256) (j : Fin 64) : EOUT s (ix5 b h p k j)
    = Ideal.exp (if outB p.val k.val j.val = true then s (ix5 b h p k j) - MOUT s (ix3 b h p) else ⊥) := by
  pointwise [EOUT]
  simp only [cst, neg_inf, OUTER_apply, select_bool]

theorem SOUT_apply : SOUT s (ix3 b h p) = ∑ x : Fin 256 × Fin 64, EOUT s (ix5 b h p x.1 x.2) := by
  unfold SOUT
  generalize EOUT s = e
  rw [reduceAdd_zero]
  exact (sum34 reducesTo_S2x56x16384x256x64_S2x56x16384_d3_4 b h p e 0).trans (zero_add _)

theorem LOUT_apply : LOUT s (ix3 b h p) = MOUT s (ix3 b h p) + Ideal.log (SOUT s (ix3 b h p)) := by
  unfold LOUT
  exact add_log _ _ _

theorem OFF_apply (k : Fin 256) : OFF s (ix4 b h p k)
    = (if decide (k.val < p.val / 64) = true then s (ix5 b h p k 63) - LIN s (ix4 b h p k) else 0) - LOUT s (ix3 b h p) := by
  pointwise [OFF]
  simp only [cst, zero_f, PAST_apply, select_bool]

theorem WT_apply (k : Fin 256) (j : Fin 64) : WT s (ix5 b h p k j)
    = Ideal.exp (if visB p.val k.val j.val = true then s (ix5 b h p k j) + OFF s (ix4 b h p k) else ⊥) := by
  pointwise [WT]
  simp only [cst, neg_inf, VIS_apply, select_bool]

variable {s b h p} {σ : ℕ → ℝ} (hs : ∀ k j, s (ix5 b h p k j) = ((σ (64 * k.val + j.val) : ℝ) : EReal))

include hs in
/-- A block's logarithm of the sum over its regular places. -/
theorem LIN_real (k : Fin 256) : LIN s (ix4 b h p k) = ((Real.log (∑ i : Fin 63, Real.exp (σ (64 * k.val + i.val))) : ℝ) : EReal) := by
  obtain ⟨μ, hμ⟩ := masked_max (Finset.univ : Finset (Fin 64)) (fun j => decide (j.val < 63)) (fun j => σ (64 * k.val + j.val)) ⟨0, Finset.mem_univ _, rfl⟩
  have hM : MIN s (ix4 b h p k) = (μ : EReal) := by rw [MIN_apply]; simp only [hs]; exact hμ
  rw [LIN_apply, SIN_apply]
  simp only [EIN_apply, hM, hs]
  rw [masked_lse (Finset.univ : Finset (Fin 64)) (fun j => decide (j.val < 63)) (fun j => σ (64 * k.val + j.val)) ⟨0, Finset.mem_univ _, rfl⟩ μ,
    in_sum fun j => Real.exp (σ (64 * k.val + j))]

include hs in
/-- The outer logarithm of the sum. -/
theorem LOUT_real : LOUT s (ix3 b h p) = ((Real.log (Lsum σ p.val) : ℝ) : EReal) := by
  have hne : ∃ x ∈ (Finset.univ : Finset (Fin 256 × Fin 64)), outB p.val x.1.val x.2.val = true :=
    ⟨(⟨p.val / 64, by omega⟩, 0), Finset.mem_univ _, by simp [outB, ownB]⟩
  obtain ⟨μ, hμ⟩ := masked_max (Finset.univ : Finset (Fin 256 × Fin 64)) (fun x => outB p.val x.1.val x.2.val) (fun x => σ (64 * x.1.val + x.2.val)) hne
  have hM : MOUT s (ix3 b h p) = (μ : EReal) := by rw [MOUT_apply]; simp only [hs]; exact hμ
  rw [LOUT_apply, SOUT_apply]
  simp only [EOUT_apply, hM, hs]
  rw [masked_lse (Finset.univ : Finset (Fin 256 × Fin 64)) (fun x => outB p.val x.1.val x.2.val) (fun x => σ (64 * x.1.val + x.2.val)) hne μ, out_sum]

include hs in
/-- The weights of a query. -/
theorem WT_real (k : Fin 256) (j : Fin 64) : WT s (ix5 b h p k j) = ((Wt (ex σ) (p.val / 64) (p.val % 64) k.val j.val * (Lsum σ p.val)⁻¹ : ℝ) : EReal) := by
  rw [WT_apply, OFF_apply, LIN_real hs, LOUT_real hs, hs, hs]
  exact ref_weight σ p.val k.val j.val p.isLt j.isLt

/-! ## The scores and the result -/

variable (m : (ℓ : Loc nD τ sig) → Buf (Elt Ideal) ℓ) (c : Dev nD)

theorem RS_apply (b : Fin 2) (h : Fin 56) (p : Fin 16384) (k : Fin 256) (j : Fin 64) : RS m c (ix5 b h p k j)
    = (∑ x : Fin 128, B0 m c (ix4 b p h x) * B2 m c (ix4 b ⟨k.val * 64 + j.val, by omega⟩ h x)) * (B1 m c (ix2 b h) * Ideal.ofBits .f32 0x3DB504F3#32)
        * B3 m c (ix3 b ⟨k.val * 64 + j.val, by omega⟩ h) := by
  pointwise [RS]

theorem OUT_apply (w : FVec Ideal S2x56x16384x256x64 .f32) (b : Fin 2) (h : Fin 56) (p : Fin 16384) (d : Fin 128) :
    OUT m c w (ix3 b p ⟨h.val * 128 + d.val, by omega⟩)
      = ∑ x : Fin 16384, B4 m c (ix4 b x h d) * (w (ix5 b h p ⟨x.val / 64, by omega⟩ ⟨x.val % 64, by omega⟩) * B5 m c (ix3 b x h)) := by
  pointwise [OUT]

variable {q k : Fin 2 → Fin 16384 → Fin 56 → Fin 128 → ℝ} {qs : Fin 2 → Fin 56 → ℝ} {ks : Fin 2 → Fin 16384 → Fin 56 → ℝ} {c0 : ℝ}
  (hq : ∀ b p h x, B0 m c (ix4 b p h x) = ((q b p h x : ℝ) : EReal)) (hqs : ∀ b h, B1 m c (ix2 b h) = ((qs b h : ℝ) : EReal))
  (hk : ∀ b p h x, B2 m c (ix4 b p h x) = ((k b p h x : ℝ) : EReal)) (hks : ∀ b p h, B3 m c (ix3 b p h) = ((ks b p h : ℝ) : EReal))
  (hc : Ideal.ofBits .f32 0x3DB504F3#32 = (c0 : EReal))

include hq hqs hk hks hc in
/-- The reference's scores. -/
theorem RS_real (b : Fin 2) (h : Fin 56) (p : Fin 16384) (n : Fin 256) (j : Fin 64) :
    RS m c (ix5 b h p n j) = ((sc q k qs ks c0 b h p (64 * n.val + j.val) : ℝ) : EReal) := by
  rw [RS_apply]
  simp only [hq, hqs, hk, hks, hc, ← EReal.coe_mul]
  rw [coe_sum, ← EReal.coe_mul, ← EReal.coe_mul]
  congr 1
  unfold sc
  rw [dif_pos (by omega)]
  have e : (⟨n.val * 64 + j.val, by omega⟩ : Fin 16384) = ⟨64 * n.val + j.val, by omega⟩ := Fin.ext (by show n.val * 64 + j.val = 64 * n.val + j.val; omega)
  rw [e, Finset.sum_congr rfl fun x _ => mul_comm (q b p h x) _]
  ring

include hq hqs hk hks hc in
/-- The reference's result at a query: the attention output. -/
theorem res_apply (b : Fin 2) (h : Fin 56) (p : Fin 16384) (d : Fin 128) :
    (Value.res_main_v96 (F := Ideal) m c : FVec Ideal S2x16384x7168 .bf16) (ix3 b p ⟨h.val * 128 + d.val, by omega⟩)
      = att (sc q k qs ks c0 b h p) (vl (fun b p h x => B4 m c (ix4 b p h x)) (fun b p h => B5 m c (ix3 b p h)) b h d) p.val := by
  have key : ∑ x : Fin 16384, B4 m c (ix4 b x h d) * (WT (RS m c) (ix5 b h p ⟨x.val / 64, by omega⟩ ⟨x.val % 64, by omega⟩) * B5 m c (ix3 b x h))
      = att (sc q k qs ks c0 b h p) (vl (fun b p h x => B4 m c (ix4 b p h x)) (fun b p h => B5 m c (ix3 b p h)) b h d) p.val := by
    rw [← ref_sum _ _ _ p.isLt]
    refine Finset.sum_congr rfl fun x _ => ?_
    rw [WT_real (RS_real m c hq hqs hk hks hc b h p)]
    unfold vl
    rw [dif_pos x.isLt, mul_comm _ (B5 m c (ix3 b x h)), ← mul_assoc]
  exact (congrFun (res_eq m c) _).trans ((OUT_apply m c _ b h p d).trans key)

end Cert.ReferenceIdeal.Ref
-- ==== Proof.Pre.lean ====
/-
  What the precondition says: the entries of the queries, the keys and their scales are real numbers.
-/
module

public import proofs.«01_k».proof.Defs
public import Idealize.ShloMosaic.Lib.Pointwise
public import Idealize.ShloMosaic.PureOps.Ideal

@[expose] public section

noncomputable section

namespace Cert.Pre_finite_scores

open Idealize.ShloMosaic

instance facts : Facts where
  bcast_S_S2x16384x56x128 := by decide +kernel
  bcast_S_S2x56 := by decide +kernel
  bcast_S_S2x16384x56 := by decide +kernel

/-- The pattern of +∞ denotes it. -/
theorem pos_inf : Ideal.ofBits .f32 0x7F800000#32 = ⊤ := by simp [Ideal.ofBits, Ideal.ieee]

/-- An extended real whose absolute value lies below +∞ is real. -/
theorem real_of_abs_lt {x : EReal} (h : max x (-x) < ⊤) : ∃ r : ℝ, x = (r : EReal) := by
  have h1 : x < ⊤ := lt_of_le_of_lt (le_max_left _ _) h
  have h2 : -x < ⊤ := lt_of_le_of_lt (le_max_right _ _) h
  induction x using EReal.rec with
  | bot => simp at h2
  | coe r => exact ⟨r, rfl⟩
  | top => simp at h1

/-- One entry of the test `|x| < ∞`. -/
theorem real_of_test {t : Shape} (x y : FVec Ideal t .f32) (i : t.Idx) (hy : y i = ⊤) (h : cmpf .olt (Host.absf x) y i = 1) :
    ∃ r : ℝ, x i = (r : EReal) := by
  refine real_of_abs_lt ?_
  have h' : BitVec.ofBool (decide (max (x i) (-(x i)) < y i)) = 1 := h
  rw [hy] at h'
  by_contra hn
  rw [decide_eq_false hn] at h'
  exact absurd h' (by decide)

variable (x0 : FVec Ideal S2x16384x56x128 .f32) (x1 : FVec Ideal S2x56 .f32) (x2 : FVec Ideal S2x16384x56x128 .f32) (x3 : FVec Ideal S2x16384x56 .f32)
  (x4 : FVec Ideal S2x16384x56x128 .f32) (x5 : FVec Ideal S2x16384x56 .f32)

theorem real0 (h : (fn (F := Ideal) x0 x1 x2 x3 x4 x5).1 = fun _ => 1#1) (i : S2x16384x56x128.Idx) : ∃ r : ℝ, x0 i = (r : EReal) :=
  real_of_test x0 _ i pos_inf (congrFun h i)
theorem real1 (h : (fn (F := Ideal) x0 x1 x2 x3 x4 x5).2.1 = fun _ => 1#1) (i : S2x56.Idx) : ∃ r : ℝ, x1 i = (r : EReal) :=
  real_of_test x1 _ i pos_inf (congrFun h i)
theorem real2 (h : (fn (F := Ideal) x0 x1 x2 x3 x4 x5).2.2.1 = fun _ => 1#1) (i : S2x16384x56x128.Idx) : ∃ r : ℝ, x2 i = (r : EReal) :=
  real_of_test x2 _ i pos_inf (congrFun h i)
theorem real3 (h : (fn (F := Ideal) x0 x1 x2 x3 x4 x5).2.2.2 = fun _ => 1#1) (i : S2x16384x56.Idx) : ∃ r : ℝ, x3 i = (r : EReal) :=
  real_of_test x3 _ i pos_inf (congrFun h i)

end Cert.Pre_finite_scores
-- ==== Proof.lean ====
/-
  The proof of `Cert.Claim`: the frames of the kernel at both instances (Proof/Run.lean and its twin under Proof/Bits),
  the reference's frame from its generated run, the one ledger entry's statement, and the equation of the two results:
  both are the attention output `att` of Proof/Spec.lean (Proof/KVal.lean and Proof/RVal.lean).
-/
module

public import proofs.«01_k».proof.Defs
public import proofs.«01_k».proof.Proof.Gen.Kernel
public import proofs.«01_k».proof.Proof.Gen.Kernel.Skeleton
public import proofs.«01_k».proof.Proof.Gen.Kernel.Loops
public import proofs.«01_k».proof.Proof.Gen.Kernel.Launch
public import proofs.«01_k».proof.Proof.Gen.Kernel.Points
public import proofs.«01_k».proof.Proof.Gen.Kernel.Frame
public import proofs.«01_k».proof.Proof.Gen.KernelIdeal
public import proofs.«01_k».proof.Proof.Gen.KernelIdeal.Skeleton
public import proofs.«01_k».proof.Proof.Gen.KernelIdeal.Loops
public import proofs.«01_k».proof.Proof.Gen.KernelIdeal.Launch
public import proofs.«01_k».proof.Proof.Gen.KernelIdeal.Points
public import proofs.«01_k».proof.Proof.Gen.KernelIdeal.Frame
public import proofs.«01_k».proof.Proof.Gen.ReferenceIdeal
public import proofs.«01_k».proof.Proof.Run
public import proofs.«01_k».proof.Proof.Gen.ReferenceIdeal.Run
public import proofs.«01_k».proof.Proof.Bits.Run
public import proofs.«01_k».proof.Proof.KVal
public import proofs.«01_k».proof.Proof.RVal
public import proofs.«01_k».proof.Proof.Pre
public import Idealize.ShloMosaic.Lib.Quiescent
public import Idealize.ShloMosaic.Adequacy
public import Idealize.ShloMosaic.Init

@[expose] public section

noncomputable section

namespace Cert.Proof

open Idealize.ShloMosaic Idealize.SL.Sem Cert.Kernel

/-- The ideal program differs from the kernel by the one named constant, `log2 e` as the inverse of `log 2`. -/
theorem preserves : Cert.preserves_Kernel_KernelIdeal :=
  IdealRules.named_const.statement Cert.KernelIdeal.κ "log2e" .f32 0x3FB8AA3B#32 (((Real.log 2)⁻¹ : ℝ) : EReal) rfl

/-- The reference terminates, leaves its arguments unchanged and ends with every counter at zero. -/
theorem frame_ri : Cert.quiescent_ReferenceIdeal := fun m ρ _ =>
  (θ_run Cert.ReferenceIdeal.defs _ _).mono (fun r h => ⟨fun c => (h c).2,
      Idealize.ShloMosaic.sem_eq_zero_of_no_sems (by decide) r.2⟩)
    (Cert.ReferenceIdeal.Value.run (F := Ideal) m ρ)

/-- Where the queries, the keys and their scales are real, the reference's result is the kernel's. -/
theorem results (m : (ℓ : Loc Cert.KernelIdeal.nD Cert.KernelIdeal.τ Cert.KernelIdeal.sig) → Buf (Elt Ideal) ℓ)
    (m' : (ℓ : Loc Cert.ReferenceIdeal.nD Cert.ReferenceIdeal.τ Cert.ReferenceIdeal.sig) → Buf (Elt Ideal) ℓ)
    (c : Dev Cert.KernelIdeal.nD)
    (h0 : ∀ i, ∃ r : ℝ, Cert.KernelIdeal.Arr.A0 m c i = (r : EReal)) (h1 : ∀ i, ∃ r : ℝ, Cert.KernelIdeal.Arr.A1 m c i = (r : EReal))
    (h2 : ∀ i, ∃ r : ℝ, Cert.KernelIdeal.Arr.A2 m c i = (r : EReal)) (h3 : ∀ i, ∃ r : ℝ, Cert.KernelIdeal.Arr.A3 m c i = (r : EReal))
    (e0 : Cert.ReferenceIdeal.Ref.B0 m' c = Cert.KernelIdeal.Arr.A0 m c) (e1 : Cert.ReferenceIdeal.Ref.B1 m' c = Cert.KernelIdeal.Arr.A1 m c)
    (e2 : Cert.ReferenceIdeal.Ref.B2 m' c = Cert.KernelIdeal.Arr.A2 m c) (e3 : Cert.ReferenceIdeal.Ref.B3 m' c = Cert.KernelIdeal.Arr.A3 m c)
    (e4 : Cert.ReferenceIdeal.Ref.B4 m' c = Cert.KernelIdeal.Arr.A4 m c) (e5 : Cert.ReferenceIdeal.Ref.B5 m' c = Cert.KernelIdeal.Arr.A5 m c) :
    (Cert.ReferenceIdeal.Value.res_main_v96 (F := Ideal) m' c : Vec Ideal Cert.KernelIdeal.S2x16384x7168 .bf16) = Cert.KernelIdeal.Arr.result m c := by
  obtain ⟨c0, hc⟩ := Cert.KernelIdeal.KVal.c0_real
  choose f0 g0 using h0
  choose f1 g1 using h1
  choose f2 g2 using h2
  choose f3 g3 using h3
  funext i
  obtain ⟨b, p, e, rfl⟩ : ∃ b p e, i = ix3 b p e := ⟨i 0, i 1, i 2, by funext a; match a with | ⟨0, _⟩ => rfl | ⟨1, _⟩ => rfl | ⟨2, _⟩ => rfl⟩
  obtain ⟨h, d, rfl⟩ : ∃ (h : Fin 56) (d : Fin 128), e = ⟨h.val * 128 + d.val, by omega⟩ := by
    have he : e.val < 7168 := e.isLt
    exact ⟨⟨e.val / 128, by omega⟩, ⟨e.val % 128, by omega⟩, Fin.ext (by show e.val = e.val / 128 * 128 + e.val % 128; omega)⟩
  have hR := Cert.ReferenceIdeal.Ref.res_apply m' c (q := fun b p h x => f0 (ix4 b p h x)) (k := fun b p h x => f2 (ix4 b p h x))
    (qs := fun b h => f1 (ix2 b h)) (ks := fun b p h => f3 (ix3 b p h)) (c0 := c0)
    (fun b p h x => (congrFun e0 _).trans (g0 _)) (fun b h => (congrFun e1 _).trans (g1 _)) (fun b p h x => (congrFun e2 _).trans (g2 _))
    (fun b p h => (congrFun e3 _).trans (g3 _)) hc b h p d
  have hK := Cert.KernelIdeal.KVal.result_apply m c (q := fun b p h x => f0 (ix4 b p h x)) (k := fun b p h x => f2 (ix4 b p h x))
    (qs := fun b h => f1 (ix2 b h)) (ks := fun b p h => f3 (ix3 b p h)) (c0 := c0)
    (fun b p h x => g0 _) (fun b h => g1 _) (fun b p h x => g2 _) (fun b p h => g3 _) hc b h p d
  rw [e4, e5] at hR
  exact hR.trans hK.symm

/-- Kernel and reference end with one result. -/
theorem algebraic : Cert.algebraic_KernelIdeal_ReferenceIdeal_pre_finite_scores := by
  intro m ρ m' ρ' hpre hagree
  refine ⟨fun c => Cert.KernelIdeal.Arr.result m c, Cert.KernelIdeal.Arr.run m ρ, ?_⟩
  refine (θ_run Cert.ReferenceIdeal.defs _ _).mono (fun _ h c => ⟨(h c).1.trans ?_, (h c).2⟩) (Cert.ReferenceIdeal.Value.run (F := Ideal) m' ρ')
  obtain ⟨p0, p1, p2, p3⟩ := hpre c
  obtain ⟨e0, e1, e2, e3, e4, e5⟩ := hagree c
  exact results m m' c (Cert.Pre_finite_scores.real0 _ _ _ _ _ _ p0) (Cert.Pre_finite_scores.real1 _ _ _ _ _ _ p1)
    (Cert.Pre_finite_scores.real2 _ _ _ _ _ _ p2) (Cert.Pre_finite_scores.real3 _ _ _ _ _ _ p3) e0 e1 e2 e3 e4 e5

/-- The certificate's claims. -/
theorem claim : Cert.Claim := ⟨Cert.Kernel.Gen.facts, Cert.KernelIdeal.Gen.facts, Cert.ReferenceIdeal.Gen.facts, Cert.Pre_finite_scores.facts,
  fun m ρ _ => Cert.Kernel.Body.frame m ρ, fun m ρ _ => Cert.KernelIdeal.Body.frame m ρ, fun m ρ _ => Cert.KernelIdeal.Body.frame m ρ,
  frame_ri, fun m ρ _ => frame_ri m ρ trivial, preserves, algebraic⟩

end Cert.Proof

end
